-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 2048, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![1, 2048, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x4096x8x128 : S_.BroadcastsInDim S1x4096x8x128 (![] : Fin 0 → Fin S1x4096x8x128.rank)

variable [Facts]

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S1x256x1024 1 × IVec S1024x1024 1 × IVec S1x4096x8x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x8x128 .f32 := Host.absf main_arg2
  let main_cst_1 : FVec F S_ .f32 := constant S_ .f32 0x7F800000#32
  let main_v7 : FVec F S1x4096x8x128 .f32 := broadcastInDim S1x4096x8x128 ![] bcast_S_S1x4096x8x128 main_cst_1
  let main_v8 : IVec S1x4096x8x128 1 := cmpf .olt main_v6 main_v7
  (main_v2, main_v5, main_v8)
-- ==== Pre_finite_scores_ReferenceIdeal.lean ====
abbrev S1x2048x1024 : Shape := ⟨3, ![1, 2048, 1024]⟩
abbrev S1024x1024 : Shape := ⟨2, ![1024, 1024]⟩
abbrev S1x32768x8x128 : Shape := ⟨4, ![1, 32768, 8, 128]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  bcast_S_S1x32768x8x128 : S_.BroadcastsInDim S1x32768x8x128 (![] : Fin 0 → Fin S1x32768x8x128.rank)

variable [Facts]

def fn {F : FTy → Type} [FloatOps F] (main_arg0 : FVec F S1x2048x1024 .f32) (main_arg1 : FVec F S1024x1024 .f32) (main_arg2 : FVec F S1x32768x8x128 .f32) (main_arg3 : FVec F S1x32768x8x128 .f32) (main_arg4 : FVec F S1024x1024 .f32) : IVec S1x2048x1024 1 × IVec S1024x1024 1 × IVec S1x32768x8x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x32768x8x128 .f32 := Host.absf main_arg2
  let main_cst_1 : FVec F S_ .f32 := constant S_ .f32 0x7F800000#32
  let main_v7 : FVec F S1x32768x8x128 .f32 := broadcastInDim S1x32768x8x128 ![] bcast_S_S1x32768x8x128 main_cst_1
  let main_v8 : IVec S1x32768x8x128 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S8x256x1024 : Shape := ⟨3, ![8, 256, 1024]⟩
abbrev S8x4096x128 : Shape := ⟨3, ![8, 4096, 128]⟩
abbrev S2x4096x128 : Shape := ⟨3, ![2, 4096, 128]⟩
abbrev S8x256x8 : Shape := ⟨3, ![8, 256, 8]⟩
abbrev S256x1024 : Shape := ⟨2, ![256, 1024]⟩
abbrev S8 : Shape := ⟨1, ![8]⟩
abbrev S2 : Shape := ⟨1, ![2]⟩
abbrev S_ : Shape := ⟨0, ![]⟩
abbrev S1 : Shape := ⟨1, ![1]⟩
abbrev S1x4096x128 : Shape := ⟨3, ![1, 4096, 128]⟩
abbrev S4096x128 : Shape := ⟨2, ![4096, 128]⟩
abbrev S1x4096x1x128 : Shape := ⟨4, ![1, 4096, 1, 128]⟩
abbrev S1x256x128 : Shape := ⟨3, ![1, 256, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S1x256x8 : Shape := ⟨3, ![1, 256, 8]⟩
abbrev S256x8 : Shape := ⟨2, ![256, 8]⟩

abbrev nBuf : Space → Nat
  | .hbm => 6
  | .vmem => 14
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S8x256x1024, .bf16⟩
  | .local _ .vmem, ⟨5, _⟩ => ⟨S8x4096x128, .bf16⟩
  | .local _ .vmem, ⟨6, _⟩ => ⟨S8x4096x128, .bf16⟩
  | .local _ .vmem, ⟨7, _⟩ => ⟨S2x4096x128, .f32⟩
  | .local _ .vmem, ⟨8, _⟩ => ⟨S2x4096x128, .f32⟩
  | .local _ .vmem, ⟨9, _⟩ => ⟨S8x256x1024, .bf16⟩
  | .local _ .vmem, ⟨10, _⟩ => ⟨S8x256x1024, .bf16⟩
  | .local _ .vmem, ⟨11, _⟩ => ⟨S8x256x8, .f32⟩
  | .local _ .vmem, ⟨12, _⟩ => ⟨S8x256x8, .f32⟩
  | .local _ .vmem, ⟨13, _⟩ => ⟨S256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_104 : BitVec 32 := 1#32
  let v132 : BitVec 32 := Scalar.addi v2 c1_i32_104
  let c8_i32_105 : BitVec 32 := 8#32
  let c0_i32_106 : BitVec 32 := 0#32
  let v133 : BitVec 1 := Scalar.cmpi .eq c8_i32_105 c0_i32_106
  let c1_i32_107 : BitVec 32 := 1#32
  let v134 : BitVec 32 := Scalar.select v133 c1_i32_107 c8_i32_105
  let v135 : BitVec 32 := Scalar.remsi v132 v134
  let c0_i32_109 : BitVec 32 := 0#32
  let v137 : BitVec 1 := Scalar.cmpi .slt v135 c0_i32_109
  let c0_i32_110 : BitVec 32 := 0#32
  let v138 : BitVec 1 := Scalar.cmpi .slt v134 c0_i32_110
  let v139 : BitVec 1 := Scalar.xori v137 v138
  let c0_i32_108 : BitVec 32 := 0#32
  let v136 : BitVec 1 := Scalar.cmpi .ne v135 c0_i32_108
  let v140 : BitVec 1 := Scalar.andi v139 v136
  let v141 : BitVec 32 := Scalar.addi v135 v134
  let v142 : BitVec 32 := Scalar.select v140 v141 v135
  let c1_i32_115 : BitVec 32 := 1#32
  let v143 : BitVec 32 := Scalar.muli v142 c1_i32_115
  let v144 : BitVec 32 := Scalar.addi c0_i32_116 v143
  v144.toNat
def k0_dev9 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_121 : BitVec 32 := 2#32
  let v153 : BitVec 32 := Scalar.addi v2 c2_i32_121
  let c8_i32_122 : BitVec 32 := 8#32
  let c0_i32_123 : BitVec 32 := 0#32
  let v154 : BitVec 1 := Scalar.cmpi .eq c8_i32_122 c0_i32_123
  let c1_i32_124 : BitVec 32 := 1#32
  let v155 : BitVec 32 := Scalar.select v154 c1_i32_124 c8_i32_122
  let v156 : BitVec 32 := Scalar.remsi v153 v155
  let c0_i32_126 : BitVec 32 := 0#32
  let v158 : BitVec 1 := Scalar.cmpi .slt v156 c0_i32_126
  let c0_i32_127 : BitVec 32 := 0#32
  let v159 : BitVec 1 := Scalar.cmpi .slt v155 c0_i32_127
  let v160 : BitVec 1 := Scalar.xori v158 v159
  let c0_i32_125 : BitVec 32 := 0#32
  let v157 : BitVec 1 := Scalar.cmpi .ne v156 c0_i32_125
  let v161 : BitVec 1 := Scalar.andi v160 v157
  let v162 : BitVec 32 := Scalar.addi v156 v155
  let v163 : BitVec 32 := Scalar.select v161 v162 v156
  let c1_i32_132 : BitVec 32 := 1#32
  let v164 : BitVec 32 := Scalar.muli v163 c1_i32_132
  let v165 : BitVec 32 := Scalar.addi c0_i32_133 v164
  v165.toNat
def k0_dev10 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_138 : BitVec 32 := 3#32
  let v174 : BitVec 32 := Scalar.addi v2 c3_i32_138
  let c8_i32_139 : BitVec 32 := 8#32
  let c0_i32_140 : BitVec 32 := 0#32
  let v175 : BitVec 1 := Scalar.cmpi .eq c8_i32_139 c0_i32_140
  let c1_i32_141 : BitVec 32 := 1#32
  let v176 : BitVec 32 := Scalar.select v175 c1_i32_141 c8_i32_139
  let v177 : BitVec 32 := Scalar.remsi v174 v176
  let c0_i32_143 : BitVec 32 := 0#32
  let v179 : BitVec 1 := Scalar.cmpi .slt v177 c0_i32_143
  let c0_i32_144 : BitVec 32 := 0#32
  let v180 : BitVec 1 := Scalar.cmpi .slt v176 c0_i32_144
  let v181 : BitVec 1 := Scalar.xori v179 v180
  let c0_i32_142 : BitVec 32 := 0#32
  let v178 : BitVec 1 := Scalar.cmpi .ne v177 c0_i32_142
  let v182 : BitVec 1 := Scalar.andi v181 v178
  let v183 : BitVec 32 := Scalar.addi v177 v176
  let v184 : BitVec 32 := Scalar.select v182 v183 v177
  let c1_i32_149 : BitVec 32 := 1#32
  let v185 : BitVec 32 := Scalar.muli v184 c1_i32_149
  let v186 : BitVec 32 := Scalar.addi c0_i32_150 v185
  v186.toNat
def k0_dev11 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_155 : BitVec 32 := 4#32
  let v195 : BitVec 32 := Scalar.addi v2 c4_i32_155
  let c8_i32_156 : BitVec 32 := 8#32
  let c0_i32_157 : BitVec 32 := 0#32
  let v196 : BitVec 1 := Scalar.cmpi .eq c8_i32_156 c0_i32_157
  let c1_i32_158 : BitVec 32 := 1#32
  let v197 : BitVec 32 := Scalar.select v196 c1_i32_158 c8_i32_156
  let v198 : BitVec 32 := Scalar.remsi v195 v197
  let c0_i32_160 : BitVec 32 := 0#32
  let v200 : BitVec 1 := Scalar.cmpi .slt v198 c0_i32_160
  let c0_i32_161 : BitVec 32 := 0#32
  let v201 : BitVec 1 := Scalar.cmpi .slt v197 c0_i32_161
  let v202 : BitVec 1 := Scalar.xori v200 v201
  let c0_i32_159 : BitVec 32 := 0#32
  let v199 : BitVec 1 := Scalar.cmpi .ne v198 c0_i32_159
  let v203 : BitVec 1 := Scalar.andi v202 v199
  let v204 : BitVec 32 := Scalar.addi v198 v197
  let v205 : BitVec 32 := Scalar.select v203 v204 v198
  let c1_i32_166 : BitVec 32 := 1#32
  let v206 : BitVec 32 := Scalar.muli v205 c1_i32_166
  let v207 : BitVec 32 := Scalar.addi c0_i32_167 v206
  v207.toNat
def k0_dev12 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_172 : BitVec 32 := 5#32
  let v216 : BitVec 32 := Scalar.addi v2 c5_i32_172
  let c8_i32_173 : BitVec 32 := 8#32
  let c0_i32_174 : BitVec 32 := 0#32
  let v217 : BitVec 1 := Scalar.cmpi .eq c8_i32_173 c0_i32_174
  let c1_i32_175 : BitVec 32 := 1#32
  let v218 : BitVec 32 := Scalar.select v217 c1_i32_175 c8_i32_173
  let v219 : BitVec 32 := Scalar.remsi v216 v218
  let c0_i32_177 : BitVec 32 := 0#32
  let v221 : BitVec 1 := Scalar.cmpi .slt v219 c0_i32_177
  let c0_i32_178 : BitVec 32 := 0#32
  let v222 : BitVec 1 := Scalar.cmpi .slt v218 c0_i32_178
  let v223 : BitVec 1 := Scalar.xori v221 v222
  let c0_i32_176 : BitVec 32 := 0#32
  let v220 : BitVec 1 := Scalar.cmpi .ne v219 c0_i32_176
  let v224 : BitVec 1 := Scalar.andi v223 v220
  let v225 : BitVec 32 := Scalar.addi v219 v218
  let v226 : BitVec 32 := Scalar.select v224 v225 v219
  let c1_i32_183 : BitVec 32 := 1#32
  let v227 : BitVec 32 := Scalar.muli v226 c1_i32_183
  let v228 : BitVec 32 := Scalar.addi c0_i32_184 v227
  v228.toNat
def k0_dev13 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_189 : BitVec 32 := 6#32
  let v237 : BitVec 32 := Scalar.addi v2 c6_i32_189
  let c8_i32_190 : BitVec 32 := 8#32
  let c0_i32_191 : BitVec 32 := 0#32
  let v238 : BitVec 1 := Scalar.cmpi .eq c8_i32_190 c0_i32_191
  let c1_i32_192 : BitVec 32 := 1#32
  let v239 : BitVec 32 := Scalar.select v238 c1_i32_192 c8_i32_190
  let v240 : BitVec 32 := Scalar.remsi v237 v239
  let c0_i32_194 : BitVec 32 := 0#32
  let v242 : BitVec 1 := Scalar.cmpi .slt v240 c0_i32_194
  let c0_i32_195 : BitVec 32 := 0#32
  let v243 : BitVec 1 := Scalar.cmpi .slt v239 c0_i32_195
  let v244 : BitVec 1 := Scalar.xori v242 v243
  let c0_i32_193 : BitVec 32 := 0#32
  let v241 : BitVec 1 := Scalar.cmpi .ne v240 c0_i32_193
  let v245 : BitVec 1 := Scalar.andi v244 v241
  let v246 : BitVec 32 := Scalar.addi v240 v239
  let v247 : BitVec 32 := Scalar.select v245 v246 v240
  let c1_i32_200 : BitVec 32 := 1#32
  let v248 : BitVec 32 := Scalar.muli v247 c1_i32_200
  let v249 : BitVec 32 := Scalar.addi c0_i32_201 v248
  v249.toNat
def k0_dev14 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_206 : BitVec 32 := 7#32
  let v258 : BitVec 32 := Scalar.addi v2 c7_i32_206
  let c8_i32_207 : BitVec 32 := 8#32
  let c0_i32_208 : BitVec 32 := 0#32
  let v259 : BitVec 1 := Scalar.cmpi .eq c8_i32_207 c0_i32_208
  let c1_i32_209 : BitVec 32 := 1#32
  let v260 : BitVec 32 := Scalar.select v259 c1_i32_209 c8_i32_207
  let v261 : BitVec 32 := Scalar.remsi v258 v260
  let c0_i32_211 : BitVec 32 := 0#32
  let v263 : BitVec 1 := Scalar.cmpi .slt v261 c0_i32_211
  let c0_i32_212 : BitVec 32 := 0#32
  let v264 : BitVec 1 := Scalar.cmpi .slt v260 c0_i32_212
  let v265 : BitVec 1 := Scalar.xori v263 v264
  let c0_i32_210 : BitVec 32 := 0#32
  let v262 : BitVec 1 := Scalar.cmpi .ne v261 c0_i32_210
  let v266 : BitVec 1 := Scalar.andi v265 v262
  let v267 : BitVec 32 := Scalar.addi v261 v260
  let v268 : BitVec 32 := Scalar.select v266 v267 v261
  let c1_i32_217 : BitVec 32 := 1#32
  let v269 : BitVec 32 := Scalar.muli v268 c1_i32_217
  let v270 : BitVec 32 := Scalar.addi c0_i32_218 v269
  v270.toNat
def k0_dev15 (d0 : Dev nD) : Nat :=
  let c0_i32_839 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_827 : BitVec 32 := 1#32
  let v855 : BitVec 32 := Scalar.subi v2 c1_i32_827
  let c8_i32_828 : BitVec 32 := 8#32
  let c0_i32_829 : BitVec 32 := 0#32
  let v856 : BitVec 1 := Scalar.cmpi .eq c8_i32_828 c0_i32_829
  let c1_i32_830 : BitVec 32 := 1#32
  let v857 : BitVec 32 := Scalar.select v856 c1_i32_830 c8_i32_828
  let v858 : BitVec 32 := Scalar.remsi v855 v857
  let c0_i32_832 : BitVec 32 := 0#32
  let v860 : BitVec 1 := Scalar.cmpi .slt v858 c0_i32_832
  let c0_i32_833 : BitVec 32 := 0#32
  let v861 : BitVec 1 := Scalar.cmpi .slt v857 c0_i32_833
  let v862 : BitVec 1 := Scalar.xori v860 v861
  let c0_i32_831 : BitVec 32 := 0#32
  let v859 : BitVec 1 := Scalar.cmpi .ne v858 c0_i32_831
  let v863 : BitVec 1 := Scalar.andi v862 v859
  let v864 : BitVec 32 := Scalar.addi v858 v857
  let v865 : BitVec 32 := Scalar.select v863 v864 v858
  let c1_i32_838 : BitVec 32 := 1#32
  let v866 : BitVec 32 := Scalar.muli v865 c1_i32_838
  let v867 : BitVec 32 := Scalar.addi c0_i32_839 v866
  v867.toNat
def k0_dev16 (d0 : Dev nD) : Nat :=
  let c0_i32_849 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_827 : BitVec 32 := 1#32
  let v855 : BitVec 32 := Scalar.subi v2 c1_i32_827
  let c8_i32_828 : BitVec 32 := 8#32
  let c0_i32_829 : BitVec 32 := 0#32
  let v856 : BitVec 1 := Scalar.cmpi .eq c8_i32_828 c0_i32_829
  let c1_i32_830 : BitVec 32 := 1#32
  let v857 : BitVec 32 := Scalar.select v856 c1_i32_830 c8_i32_828
  let v858 : BitVec 32 := Scalar.remsi v855 v857
  let c0_i32_832 : BitVec 32 := 0#32
  let v860 : BitVec 1 := Scalar.cmpi .slt v858 c0_i32_832
  let c0_i32_833 : BitVec 32 := 0#32
  let v861 : BitVec 1 := Scalar.cmpi .slt v857 c0_i32_833
  let v862 : BitVec 1 := Scalar.xori v860 v861
  let c0_i32_831 : BitVec 32 := 0#32
  let v859 : BitVec 1 := Scalar.cmpi .ne v858 c0_i32_831
  let v863 : BitVec 1 := Scalar.andi v862 v859
  let v864 : BitVec 32 := Scalar.addi v858 v857
  let v865 : BitVec 32 := Scalar.select v863 v864 v858
  let c1_i32_848 : BitVec 32 := 1#32
  let v876 : BitVec 32 := Scalar.muli v865 c1_i32_848
  let v877 : BitVec 32 := Scalar.addi c0_i32_849 v876
  v877.toNat
def k0_dev17 (d0 : Dev nD) : Nat :=
  let c0_i32_1020 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1008 : BitVec 32 := 2#32
  let v1046 : BitVec 32 := Scalar.subi v2 c2_i32_1008
  let c8_i32_1009 : BitVec 32 := 8#32
  let c0_i32_1010 : BitVec 32 := 0#32
  let v1047 : BitVec 1 := Scalar.cmpi .eq c8_i32_1009 c0_i32_1010
  let c1_i32_1011 : BitVec 32 := 1#32
  let v1048 : BitVec 32 := Scalar.select v1047 c1_i32_1011 c8_i32_1009
  let v1049 : BitVec 32 := Scalar.remsi v1046 v1048
  let c0_i32_1013 : BitVec 32 := 0#32
  let v1051 : BitVec 1 := Scalar.cmpi .slt v1049 c0_i32_1013
  let c0_i32_1014 : BitVec 32 := 0#32
  let v1052 : BitVec 1 := Scalar.cmpi .slt v1048 c0_i32_1014
  let v1053 : BitVec 1 := Scalar.xori v1051 v1052
  let c0_i32_1012 : BitVec 32 := 0#32
  let v1050 : BitVec 1 := Scalar.cmpi .ne v1049 c0_i32_1012
  let v1054 : BitVec 1 := Scalar.andi v1053 v1050
  let v1055 : BitVec 32 := Scalar.addi v1049 v1048
  let v1056 : BitVec 32 := Scalar.select v1054 v1055 v1049
  let c1_i32_1019 : BitVec 32 := 1#32
  let v1057 : BitVec 32 := Scalar.muli v1056 c1_i32_1019
  let v1058 : BitVec 32 := Scalar.addi c0_i32_1020 v1057
  v1058.toNat
def k0_dev18 (d0 : Dev nD) : Nat :=
  let c0_i32_1030 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1008 : BitVec 32 := 2#32
  let v1046 : BitVec 32 := Scalar.subi v2 c2_i32_1008
  let c8_i32_1009 : BitVec 32 := 8#32
  let c0_i32_1010 : BitVec 32 := 0#32
  let v1047 : BitVec 1 := Scalar.cmpi .eq c8_i32_1009 c0_i32_1010
  let c1_i32_1011 : BitVec 32 := 1#32
  let v1048 : BitVec 32 := Scalar.select v1047 c1_i32_1011 c8_i32_1009
  let v1049 : BitVec 32 := Scalar.remsi v1046 v1048
  let c0_i32_1013 : BitVec 32 := 0#32
  let v1051 : BitVec 1 := Scalar.cmpi .slt v1049 c0_i32_1013
  let c0_i32_1014 : BitVec 32 := 0#32
  let v1052 : BitVec 1 := Scalar.cmpi .slt v1048 c0_i32_1014
  let v1053 : BitVec 1 := Scalar.xori v1051 v1052
  let c0_i32_1012 : BitVec 32 := 0#32
  let v1050 : BitVec 1 := Scalar.cmpi .ne v1049 c0_i32_1012
  let v1054 : BitVec 1 := Scalar.andi v1053 v1050
  let v1055 : BitVec 32 := Scalar.addi v1049 v1048
  let v1056 : BitVec 32 := Scalar.select v1054 v1055 v1049
  let c1_i32_1029 : BitVec 32 := 1#32
  let v1067 : BitVec 32 := Scalar.muli v1056 c1_i32_1029
  let v1068 : BitVec 32 := Scalar.addi c0_i32_1030 v1067
  v1068.toNat
def k0_dev19 (d0 : Dev nD) : Nat :=
  let c0_i32_1201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1189 : BitVec 32 := 3#32
  let v1237 : BitVec 32 := Scalar.subi v2 c3_i32_1189
  let c8_i32_1190 : BitVec 32 := 8#32
  let c0_i32_1191 : BitVec 32 := 0#32
  let v1238 : BitVec 1 := Scalar.cmpi .eq c8_i32_1190 c0_i32_1191
  let c1_i32_1192 : BitVec 32 := 1#32
  let v1239 : BitVec 32 := Scalar.select v1238 c1_i32_1192 c8_i32_1190
  let v1240 : BitVec 32 := Scalar.remsi v1237 v1239
  let c0_i32_1194 : BitVec 32 := 0#32
  let v1242 : BitVec 1 := Scalar.cmpi .slt v1240 c0_i32_1194
  let c0_i32_1195 : BitVec 32 := 0#32
  let v1243 : BitVec 1 := Scalar.cmpi .slt v1239 c0_i32_1195
  let v1244 : BitVec 1 := Scalar.xori v1242 v1243
  let c0_i32_1193 : BitVec 32 := 0#32
  let v1241 : BitVec 1 := Scalar.cmpi .ne v1240 c0_i32_1193
  let v1245 : BitVec 1 := Scalar.andi v1244 v1241
  let v1246 : BitVec 32 := Scalar.addi v1240 v1239
  let v1247 : BitVec 32 := Scalar.select v1245 v1246 v1240
  let c1_i32_1200 : BitVec 32 := 1#32
  let v1248 : BitVec 32 := Scalar.muli v1247 c1_i32_1200
  let v1249 : BitVec 32 := Scalar.addi c0_i32_1201 v1248
  v1249.toNat
def k0_dev20 (d0 : Dev nD) : Nat :=
  let c0_i32_1211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1189 : BitVec 32 := 3#32
  let v1237 : BitVec 32 := Scalar.subi v2 c3_i32_1189
  let c8_i32_1190 : BitVec 32 := 8#32
  let c0_i32_1191 : BitVec 32 := 0#32
  let v1238 : BitVec 1 := Scalar.cmpi .eq c8_i32_1190 c0_i32_1191
  let c1_i32_1192 : BitVec 32 := 1#32
  let v1239 : BitVec 32 := Scalar.select v1238 c1_i32_1192 c8_i32_1190
  let v1240 : BitVec 32 := Scalar.remsi v1237 v1239
  let c0_i32_1194 : BitVec 32 := 0#32
  let v1242 : BitVec 1 := Scalar.cmpi .slt v1240 c0_i32_1194
  let c0_i32_1195 : BitVec 32 := 0#32
  let v1243 : BitVec 1 := Scalar.cmpi .slt v1239 c0_i32_1195
  let v1244 : BitVec 1 := Scalar.xori v1242 v1243
  let c0_i32_1193 : BitVec 32 := 0#32
  let v1241 : BitVec 1 := Scalar.cmpi .ne v1240 c0_i32_1193
  let v1245 : BitVec 1 := Scalar.andi v1244 v1241
  let v1246 : BitVec 32 := Scalar.addi v1240 v1239
  let v1247 : BitVec 32 := Scalar.select v1245 v1246 v1240
  let c1_i32_1210 : BitVec 32 := 1#32
  let v1258 : BitVec 32 := Scalar.muli v1247 c1_i32_1210
  let v1259 : BitVec 32 := Scalar.addi c0_i32_1211 v1258
  v1259.toNat
def k0_dev21 (d0 : Dev nD) : Nat :=
  let c0_i32_1382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1370 : BitVec 32 := 4#32
  let v1428 : BitVec 32 := Scalar.subi v2 c4_i32_1370
  let c8_i32_1371 : BitVec 32 := 8#32
  let c0_i32_1372 : BitVec 32 := 0#32
  let v1429 : BitVec 1 := Scalar.cmpi .eq c8_i32_1371 c0_i32_1372
  let c1_i32_1373 : BitVec 32 := 1#32
  let v1430 : BitVec 32 := Scalar.select v1429 c1_i32_1373 c8_i32_1371
  let v1431 : BitVec 32 := Scalar.remsi v1428 v1430
  let c0_i32_1375 : BitVec 32 := 0#32
  let v1433 : BitVec 1 := Scalar.cmpi .slt v1431 c0_i32_1375
  let c0_i32_1376 : BitVec 32 := 0#32
  let v1434 : BitVec 1 := Scalar.cmpi .slt v1430 c0_i32_1376
  let v1435 : BitVec 1 := Scalar.xori v1433 v1434
  let c0_i32_1374 : BitVec 32 := 0#32
  let v1432 : BitVec 1 := Scalar.cmpi .ne v1431 c0_i32_1374
  let v1436 : BitVec 1 := Scalar.andi v1435 v1432
  let v1437 : BitVec 32 := Scalar.addi v1431 v1430
  let v1438 : BitVec 32 := Scalar.select v1436 v1437 v1431
  let c1_i32_1381 : BitVec 32 := 1#32
  let v1439 : BitVec 32 := Scalar.muli v1438 c1_i32_1381
  let v1440 : BitVec 32 := Scalar.addi c0_i32_1382 v1439
  v1440.toNat
def k0_dev22 (d0 : Dev nD) : Nat :=
  let c0_i32_1392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1370 : BitVec 32 := 4#32
  let v1428 : BitVec 32 := Scalar.subi v2 c4_i32_1370
  let c8_i32_1371 : BitVec 32 := 8#32
  let c0_i32_1372 : BitVec 32 := 0#32
  let v1429 : BitVec 1 := Scalar.cmpi .eq c8_i32_1371 c0_i32_1372
  let c1_i32_1373 : BitVec 32 := 1#32
  let v1430 : BitVec 32 := Scalar.select v1429 c1_i32_1373 c8_i32_1371
  let v1431 : BitVec 32 := Scalar.remsi v1428 v1430
  let c0_i32_1375 : BitVec 32 := 0#32
  let v1433 : BitVec 1 := Scalar.cmpi .slt v1431 c0_i32_1375
  let c0_i32_1376 : BitVec 32 := 0#32
  let v1434 : BitVec 1 := Scalar.cmpi .slt v1430 c0_i32_1376
  let v1435 : BitVec 1 := Scalar.xori v1433 v1434
  let c0_i32_1374 : BitVec 32 := 0#32
  let v1432 : BitVec 1 := Scalar.cmpi .ne v1431 c0_i32_1374
  let v1436 : BitVec 1 := Scalar.andi v1435 v1432
  let v1437 : BitVec 32 := Scalar.addi v1431 v1430
  let v1438 : BitVec 32 := Scalar.select v1436 v1437 v1431
  let c1_i32_1391 : BitVec 32 := 1#32
  let v1449 : BitVec 32 := Scalar.muli v1438 c1_i32_1391
  let v1450 : BitVec 32 := Scalar.addi c0_i32_1392 v1449
  v1450.toNat
def k0_dev23 (d0 : Dev nD) : Nat :=
  let c0_i32_1563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1551 : BitVec 32 := 5#32
  let v1619 : BitVec 32 := Scalar.subi v2 c5_i32_1551
  let c8_i32_1552 : BitVec 32 := 8#32
  let c0_i32_1553 : BitVec 32 := 0#32
  let v1620 : BitVec 1 := Scalar.cmpi .eq c8_i32_1552 c0_i32_1553
  let c1_i32_1554 : BitVec 32 := 1#32
  let v1621 : BitVec 32 := Scalar.select v1620 c1_i32_1554 c8_i32_1552
  let v1622 : BitVec 32 := Scalar.remsi v1619 v1621
  let c0_i32_1556 : BitVec 32 := 0#32
  let v1624 : BitVec 1 := Scalar.cmpi .slt v1622 c0_i32_1556
  let c0_i32_1557 : BitVec 32 := 0#32
  let v1625 : BitVec 1 := Scalar.cmpi .slt v1621 c0_i32_1557
  let v1626 : BitVec 1 := Scalar.xori v1624 v1625
  let c0_i32_1555 : BitVec 32 := 0#32
  let v1623 : BitVec 1 := Scalar.cmpi .ne v1622 c0_i32_1555
  let v1627 : BitVec 1 := Scalar.andi v1626 v1623
  let v1628 : BitVec 32 := Scalar.addi v1622 v1621
  let v1629 : BitVec 32 := Scalar.select v1627 v1628 v1622
  let c1_i32_1562 : BitVec 32 := 1#32
  let v1630 : BitVec 32 := Scalar.muli v1629 c1_i32_1562
  let v1631 : BitVec 32 := Scalar.addi c0_i32_1563 v1630
  v1631.toNat
def k0_dev24 (d0 : Dev nD) : Nat :=
  let c0_i32_1573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1551 : BitVec 32 := 5#32
  let v1619 : BitVec 32 := Scalar.subi v2 c5_i32_1551
  let c8_i32_1552 : BitVec 32 := 8#32
  let c0_i32_1553 : BitVec 32 := 0#32
  let v1620 : BitVec 1 := Scalar.cmpi .eq c8_i32_1552 c0_i32_1553
  let c1_i32_1554 : BitVec 32 := 1#32
  let v1621 : BitVec 32 := Scalar.select v1620 c1_i32_1554 c8_i32_1552
  let v1622 : BitVec 32 := Scalar.remsi v1619 v1621
  let c0_i32_1556 : BitVec 32 := 0#32
  let v1624 : BitVec 1 := Scalar.cmpi .slt v1622 c0_i32_1556
  let c0_i32_1557 : BitVec 32 := 0#32
  let v1625 : BitVec 1 := Scalar.cmpi .slt v1621 c0_i32_1557
  let v1626 : BitVec 1 := Scalar.xori v1624 v1625
  let c0_i32_1555 : BitVec 32 := 0#32
  let v1623 : BitVec 1 := Scalar.cmpi .ne v1622 c0_i32_1555
  let v1627 : BitVec 1 := Scalar.andi v1626 v1623
  let v1628 : BitVec 32 := Scalar.addi v1622 v1621
  let v1629 : BitVec 32 := Scalar.select v1627 v1628 v1622
  let c1_i32_1572 : BitVec 32 := 1#32
  let v1640 : BitVec 32 := Scalar.muli v1629 c1_i32_1572
  let v1641 : BitVec 32 := Scalar.addi c0_i32_1573 v1640
  v1641.toNat
def k0_dev25 (d0 : Dev nD) : Nat :=
  let c0_i32_1744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1732 : BitVec 32 := 6#32
  let v1810 : BitVec 32 := Scalar.subi v2 c6_i32_1732
  let c8_i32_1733 : BitVec 32 := 8#32
  let c0_i32_1734 : BitVec 32 := 0#32
  let v1811 : BitVec 1 := Scalar.cmpi .eq c8_i32_1733 c0_i32_1734
  let c1_i32_1735 : BitVec 32 := 1#32
  let v1812 : BitVec 32 := Scalar.select v1811 c1_i32_1735 c8_i32_1733
  let v1813 : BitVec 32 := Scalar.remsi v1810 v1812
  let c0_i32_1737 : BitVec 32 := 0#32
  let v1815 : BitVec 1 := Scalar.cmpi .slt v1813 c0_i32_1737
  let c0_i32_1738 : BitVec 32 := 0#32
  let v1816 : BitVec 1 := Scalar.cmpi .slt v1812 c0_i32_1738
  let v1817 : BitVec 1 := Scalar.xori v1815 v1816
  let c0_i32_1736 : BitVec 32 := 0#32
  let v1814 : BitVec 1 := Scalar.cmpi .ne v1813 c0_i32_1736
  let v1818 : BitVec 1 := Scalar.andi v1817 v1814
  let v1819 : BitVec 32 := Scalar.addi v1813 v1812
  let v1820 : BitVec 32 := Scalar.select v1818 v1819 v1813
  let c1_i32_1743 : BitVec 32 := 1#32
  let v1821 : BitVec 32 := Scalar.muli v1820 c1_i32_1743
  let v1822 : BitVec 32 := Scalar.addi c0_i32_1744 v1821
  v1822.toNat
def k0_dev26 (d0 : Dev nD) : Nat :=
  let c0_i32_1754 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1732 : BitVec 32 := 6#32
  let v1810 : BitVec 32 := Scalar.subi v2 c6_i32_1732
  let c8_i32_1733 : BitVec 32 := 8#32
  let c0_i32_1734 : BitVec 32 := 0#32
  let v1811 : BitVec 1 := Scalar.cmpi .eq c8_i32_1733 c0_i32_1734
  let c1_i32_1735 : BitVec 32 := 1#32
  let v1812 : BitVec 32 := Scalar.select v1811 c1_i32_1735 c8_i32_1733
  let v1813 : BitVec 32 := Scalar.remsi v1810 v1812
  let c0_i32_1737 : BitVec 32 := 0#32
  let v1815 : BitVec 1 := Scalar.cmpi .slt v1813 c0_i32_1737
  let c0_i32_1738 : BitVec 32 := 0#32
  let v1816 : BitVec 1 := Scalar.cmpi .slt v1812 c0_i32_1738
  let v1817 : BitVec 1 := Scalar.xori v1815 v1816
  let c0_i32_1736 : BitVec 32 := 0#32
  let v1814 : BitVec 1 := Scalar.cmpi .ne v1813 c0_i32_1736
  let v1818 : BitVec 1 := Scalar.andi v1817 v1814
  let v1819 : BitVec 32 := Scalar.addi v1813 v1812
  let v1820 : BitVec 32 := Scalar.select v1818 v1819 v1813
  let c1_i32_1753 : BitVec 32 := 1#32
  let v1831 : BitVec 32 := Scalar.muli v1820 c1_i32_1753
  let v1832 : BitVec 32 := Scalar.addi c0_i32_1754 v1831
  v1832.toNat
def k0_dev27 (d0 : Dev nD) : Nat :=
  let c0_i32_1925 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1913 : BitVec 32 := 7#32
  let v2001 : BitVec 32 := Scalar.subi v2 c7_i32_1913
  let c8_i32_1914 : BitVec 32 := 8#32
  let c0_i32_1915 : BitVec 32 := 0#32
  let v2002 : BitVec 1 := Scalar.cmpi .eq c8_i32_1914 c0_i32_1915
  let c1_i32_1916 : BitVec 32 := 1#32
  let v2003 : BitVec 32 := Scalar.select v2002 c1_i32_1916 c8_i32_1914
  let v2004 : BitVec 32 := Scalar.remsi v2001 v2003
  let c0_i32_1918 : BitVec 32 := 0#32
  let v2006 : BitVec 1 := Scalar.cmpi .slt v2004 c0_i32_1918
  let c0_i32_1919 : BitVec 32 := 0#32
  let v2007 : BitVec 1 := Scalar.cmpi .slt v2003 c0_i32_1919
  let v2008 : BitVec 1 := Scalar.xori v2006 v2007
  let c0_i32_1917 : BitVec 32 := 0#32
  let v2005 : BitVec 1 := Scalar.cmpi .ne v2004 c0_i32_1917
  let v2009 : BitVec 1 := Scalar.andi v2008 v2005
  let v2010 : BitVec 32 := Scalar.addi v2004 v2003
  let v2011 : BitVec 32 := Scalar.select v2009 v2010 v2004
  let c1_i32_1924 : BitVec 32 := 1#32
  let v2012 : BitVec 32 := Scalar.muli v2011 c1_i32_1924
  let v2013 : BitVec 32 := Scalar.addi c0_i32_1925 v2012
  v2013.toNat
def k0_dev28 (d0 : Dev nD) : Nat :=
  let c0_i32_1935 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1913 : BitVec 32 := 7#32
  let v2001 : BitVec 32 := Scalar.subi v2 c7_i32_1913
  let c8_i32_1914 : BitVec 32 := 8#32
  let c0_i32_1915 : BitVec 32 := 0#32
  let v2002 : BitVec 1 := Scalar.cmpi .eq c8_i32_1914 c0_i32_1915
  let c1_i32_1916 : BitVec 32 := 1#32
  let v2003 : BitVec 32 := Scalar.select v2002 c1_i32_1916 c8_i32_1914
  let v2004 : BitVec 32 := Scalar.remsi v2001 v2003
  let c0_i32_1918 : BitVec 32 := 0#32
  let v2006 : BitVec 1 := Scalar.cmpi .slt v2004 c0_i32_1918
  let c0_i32_1919 : BitVec 32 := 0#32
  let v2007 : BitVec 1 := Scalar.cmpi .slt v2003 c0_i32_1919
  let v2008 : BitVec 1 := Scalar.xori v2006 v2007
  let c0_i32_1917 : BitVec 32 := 0#32
  let v2005 : BitVec 1 := Scalar.cmpi .ne v2004 c0_i32_1917
  let v2009 : BitVec 1 := Scalar.andi v2008 v2005
  let v2010 : BitVec 32 := Scalar.addi v2004 v2003
  let v2011 : BitVec 32 := Scalar.select v2009 v2010 v2004
  let c1_i32_1934 : BitVec 32 := 1#32
  let v2022 : BitVec 32 := Scalar.muli v2011 c1_i32_1934
  let v2023 : BitVec 32 := Scalar.addi c0_i32_1935 v2022
  v2023.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x2048x1024 : Shape := ⟨3, ![1, 2048, 1024]⟩
abbrev S1024x1024 : Shape := ⟨2, ![1024, 1024]⟩
abbrev S1x32768x8x128 : Shape := ⟨4, ![1, 32768, 8, 128]⟩
abbrev S1x2048x8x128 : Shape := ⟨4, ![1, 2048, 8, 128]⟩
abbrev S1x8x2048x32768 : Shape := ⟨4, ![1, 8, 2048, 32768]⟩
abbrev S_ : Shape := ⟨0, ![]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S1x2048x8x1 : Shape := ⟨4, ![1, 2048, 8, 1]⟩

abbrev nBuf : Space → Nat
  | .hbm => 27
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x32768x8x128, .f32⟩
  | .hbm, ⟨3, _⟩ => ⟨S1x32768x8x128, .f32⟩
  | .hbm, ⟨4, _⟩ => ⟨S1024x1024, .f32⟩
  | .hbm, ⟨5, _⟩ => ⟨S1x2048x1024, .f32⟩
  | .hbm, ⟨6, _⟩ => ⟨S1x2048x8x128, .f32⟩
  | .hbm, ⟨7, _⟩ => ⟨S1x8x2048x32768, .f32⟩
  | .hbm, ⟨8, _⟩ => ⟨S_, .f32⟩
  | .hbm, ⟨9, _⟩ => ⟨S1x8x2048x32768, .f32⟩
  | .hbm, ⟨10, _⟩ => ⟨S1x8x2048x32768, .f32⟩
  | .hbm, ⟨11, _⟩ => ⟨S_, .f32⟩
  | .hbm, ⟨12, _⟩ => ⟨S1x8x2048, .f32⟩
  | .hbm, ⟨13, _⟩ => ⟨S1x8x2048x1, .f32⟩
  | .hbm, ⟨14, _⟩ => ⟨S1x8x2048x32768, .f32⟩
  | .hbm, ⟨15, _⟩ => ⟨S1x8x2048x32768, .f32⟩
  | .hbm, ⟨16, _⟩ => ⟨S1x8x2048x32768, .f32⟩
  | .hbm, ⟨17, _⟩ => ⟨S_, .f32⟩
  | .hbm, ⟨18, _⟩ => ⟨S1x8x2048, .f32⟩
  | .hbm, ⟨19, _⟩ => ⟨S1x8x2048x1, .f32⟩
  | .hbm, ⟨20, _⟩ => ⟨S1x8x128x2048, .f32⟩
  | .hbm, ⟨21, _⟩ => ⟨S1x2048x8x128, .f32⟩
  | .hbm, ⟨22, _⟩ => ⟨S1x2048x8x1, .f32⟩
  | .hbm, ⟨23, _⟩ => ⟨S1x2048x8x128, .f32⟩
  | .hbm, ⟨24, _⟩ => ⟨S1x2048x8x128, .f32⟩
  | .hbm, ⟨25, _⟩ => ⟨S1x2048x1024, .f32⟩
  | .hbm, ⟨26, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.KernelIdeal.Flat.lean ====
/- The kernel's body as a structured program: the printed body is one straight line of operations;
   here the same operations are written once per KIND, at a symbolic slot or head, and repeated by
   two combinators. `body_flat` says the two are the same program. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option synthInstance.maxSize 4096

noncomputable section

namespace Cert.KernelIdeal.Pf

open Cert.KernelIdeal Cert.KernelIdeal.Gen
open Idealize.ShloMosaic Idealize.ShloMosaic.TcCoe Idealize.SL.Sem

variable {F : FTy → Type} [FloatOps F]

/-- A program of one TensorCore. -/
abbrev PB (F : FTy → Type) [FloatOps F] (α : Type) : Type 1 := Prog (TpuEff nD τ sig (Elt F) Λ₀ .tc) α

/-! ## Repetition -/

/-- `f 0`, …, `f 7` in turn. -/
def seq8 (f : Fin 8 → PB F PUnit) : PB F PUnit := do
  f 0; f 1; f 2; f 3; f 4; f 5; f 6; f 7

/-- `f 1`, …, `f 7` in turn. -/
def seq7 (f : Fin 8 → PB F PUnit) : PB F PUnit := do
  f 1; f 2; f 3; f 4; f 5; f 6; f 7

/-! ## Rectangles of the buffers -/

theorem inbQ : ∀ t : Fin 8, ∀ a, (![t.val, 0, 0] : Fin 3 → Nat) a + S1x256x1024.size a ≤ S8x256x1024.size a := by decide
theorem inbQh : ∀ t h : Fin 8, ∀ a, (![t.val, 0, 128 * h.val] : Fin 3 → Nat) a + S1x256x128.size a ≤ S8x256x1024.size a := by decide
theorem inbKV : ∀ h : Fin 8, ∀ a, (![h.val, 0, 0] : Fin 3 → Nat) a + S1x4096x128.size a ≤ S8x4096x128.size a := by decide
theorem inbT : ∀ σ : Fin 2, ∀ a, (![σ.val, 0, 0] : Fin 3 → Nat) a + S1x4096x128.size a ≤ S2x4096x128.size a := by decide
theorem inbL : ∀ t : Fin 8, ∀ a, (![t.val, 0, 0] : Fin 3 → Nat) a + S1x256x8.size a ≤ S8x256x8.size a := by decide
theorem inbLh : ∀ t h : Fin 8, ∀ a, (![t.val, 0, h.val] : Fin 3 → Nat) a + S1x256x1.size a ≤ S8x256x8.size a := by decide
theorem inbA : ∀ h : Fin 8, ∀ a, (![0, 128 * h.val] : Fin 2 → Nat) a + S256x128.size a ≤ S256x1024.size a := by decide
theorem inbIn : ∀ h : Fin 8, ∀ a, (![0, 0, h.val, 0] : Fin 4 → Nat) a + S1x4096x1x128.size a ≤ S1x4096x8x128.size a := by decide
theorem inbS8 : ∀ t : Fin 8, ∀ a, (![t.val] : Fin 1 → Nat) a + S1.size a ≤ S8.size a := by decide
theorem inbS2 : ∀ σ : Fin 2, ∀ a, (![σ.val] : Fin 1 → Nat) a + S1.size a ≤ S2.size a := by decide
theorem inbX : ∀ a, (![0, 0, 0] : Fin 3 → Nat) a + S1x256x1024.size a ≤ S1x256x1024.size a := by decide
theorem inbW : ∀ a, (![0, 0] : Fin 2 → Nat) a + S1024x1024.size a ≤ S1024x1024.size a := by decide
theorem inbAtt : ∀ a, (![0, 0] : Fin 2 → Nat) a + S256x1024.size a ≤ S256x1024.size a := by decide

/-- Slot `t` of an `8 × 256 × 1024` buffer. -/
abbrev rQ (t : Fin 8) : Rect S8x256x1024 := Rect.unit (s := S8x256x1024) ![t.val, 0, 0] S1x256x1024.size (inbQ t)
/-- Head `h`'s columns of slot `t`. -/
abbrev rQh (t h : Fin 8) : Rect S8x256x1024 := Rect.unit (s := S8x256x1024) ![t.val, 0, 128 * h.val] S1x256x128.size (inbQh t h)
/-- Head `h` of a converted key or value buffer. -/
abbrev rKV (h : Fin 8) : Rect S8x4096x128 := Rect.unit (s := S8x4096x128) ![h.val, 0, 0] S1x4096x128.size (inbKV h)
/-- Slot `σ` of a key or value staging buffer. -/
abbrev rT (σ : Fin 2) : Rect S2x4096x128 := Rect.unit (s := S2x4096x128) ![σ.val, 0, 0] S1x4096x128.size (inbT σ)
/-- Slot `t` of a row-sum buffer. -/
abbrev rL (t : Fin 8) : Rect S8x256x8 := Rect.unit (s := S8x256x8) ![t.val, 0, 0] S1x256x8.size (inbL t)
/-- Head `h`'s column of slot `t` of a row-sum buffer. -/
abbrev rLh (t h : Fin 8) : Rect S8x256x8 := Rect.unit (s := S8x256x8) ![t.val, 0, h.val] S1x256x1.size (inbLh t h)
/-- Head `h`'s columns of the normalised buffer. -/
abbrev rA (h : Fin 8) : Rect S256x1024 := Rect.unit (s := S256x1024) ![0, 128 * h.val] S256x128.size (inbA h)
/-- Head `h` of the keys or values of the device. -/
abbrev rIn (h : Fin 8) : Rect S1x4096x8x128 := Rect.unit (s := S1x4096x8x128) ![0, 0, h.val, 0] S1x4096x1x128.size (inbIn h)

theorem wordsQ : ∀ t : Fin 8, (rQ t).WholeWords (EltTy.packing .bf16) := by decide
theorem packedQ : ∀ t : Fin 8, (rQ t).PackedRows (EltTy.packing .bf16) := by decide
theorem packedQh : ∀ t h : Fin 8, (rQh t h).PackedRows (EltTy.packing .bf16) := by decide
theorem packedKV : ∀ h : Fin 8, (rKV h).PackedRows (EltTy.packing .bf16) := by decide
theorem packedA : ∀ h : Fin 8, (rA h).PackedRows (EltTy.packing .bf16) := by decide

/-! ## The buffers, their slots and the semaphores -/

abbrev qbuf : Memref sig .tc .vmem S8x256x1024 .bf16 := Memref.whole cc0_scratch0
abbrev kbuf : Memref sig .tc .vmem S8x4096x128 .bf16 := Memref.whole cc0_scratch1
abbrev vbuf : Memref sig .tc .vmem S8x4096x128 .bf16 := Memref.whole cc0_scratch2
abbrev ktmp : Memref sig .tc .vmem S2x4096x128 .f32 := Memref.whole cc0_scratch3
abbrev vtmp : Memref sig .tc .vmem S2x4096x128 .f32 := Memref.whole cc0_scratch4
abbrev osend : Memref sig .tc .vmem S8x256x1024 .bf16 := Memref.whole cc0_scratch5
abbrev orecv : Memref sig .tc .vmem S8x256x1024 .bf16 := Memref.whole cc0_scratch6
abbrev lsend : Memref sig .tc .vmem S8x256x8 .f32 := Memref.whole cc0_scratch7
abbrev lrecv : Memref sig .tc .vmem S8x256x8 .f32 := Memref.whole cc0_scratch8
abbrev attbuf : Memref sig .tc .vmem S256x1024 .bf16 := Memref.whole cc0_scratch9
abbrev kIn : Memref sig .tc .hbm S1x4096x8x128 .f32 := Memref.whole main_arg2
abbrev vIn : Memref sig .tc .hbm S1x4096x8x128 .f32 := Memref.whole main_arg3

/-- Slot `t` of an `8 × 256 × 1024` buffer as a matrix. -/
abbrev slQ (M : Memref sig .tc .vmem S8x256x1024 .bf16) (t : Fin 8) : Memref sig .tc .vmem S256x1024 .bf16 :=
  (M.slice (rQ t) (fun _ => rfl)).squeeze S256x1024 squeezes_S1x256x1024_S256x1024
/-- Slot `t` of a row-sum buffer as a matrix. -/
abbrev slL (M : Memref sig .tc .vmem S8x256x8 .f32) (t : Fin 8) : Memref sig .tc .vmem S256x8 .f32 :=
  (M.slice (rL t) (fun _ => rfl)).squeeze S256x8 squeezes_S1x256x8_S256x8
/-- Slot `σ` of a staging buffer as a matrix. -/
abbrev slT (M : Memref sig .tc .vmem S2x4096x128 .f32) (σ : Fin 2) : Memref sig .tc .vmem S4096x128 .f32 :=
  (M.slice (rT σ) (fun _ => rfl)).squeeze S4096x128 squeezes_S1x4096x128_S4096x128
/-- Head `h` of the keys or values as a matrix. -/
abbrev slIn (M : Memref sig .tc .hbm S1x4096x8x128 .f32) (h : Fin 8) : Memref sig .tc .hbm S4096x128 .f32 :=
  (M.slice (rIn h) (fun _ => rfl)).squeeze S4096x128 squeezes_S1x4096x1x128_S4096x128

/-- Entry `t` of an eight-entry array of DMA semaphores. -/
abbrev sem8 (A : DmaSems sig S8) (t : Fin 8) : DmaSem sig :=
  ((A.slice (Rect.unit (s := S8) ![t.val] S1.size (inbS8 t))).squeeze S_ squeezes_S1_S_).sem
/-- Entry `σ` of a two-entry array of DMA semaphores. -/
abbrev sem2 (A : DmaSems sig S2) (σ : Fin 2) : DmaSem sig :=
  ((A.slice (Rect.unit (s := S2) ![σ.val] S1.size (inbS2 σ))).squeeze S_ squeezes_S1_S_).sem

abbrev barS : Sem sig := (SemArray.scalar (sig.barrier 0 rfl) : Sems sig S_).sem

/-- The staging slot of head `h`. -/
abbrev par (h : Fin 8) : Fin 2 := ⟨h.val % 2, Nat.mod_lt _ (by decide)⟩

/-! ## The devices named -/

/-- The device signalled at offset `t`. -/
def sigDev (c : Dev nD) (t : Fin 8) : Dev nD := match t.val with
  | 1 => ⟨k0_dev1 c, k0_dev1_lt c⟩ | 2 => ⟨k0_dev2 c, k0_dev2_lt c⟩ | 3 => ⟨k0_dev3 c, k0_dev3_lt c⟩
  | 4 => ⟨k0_dev4 c, k0_dev4_lt c⟩ | 5 => ⟨k0_dev5 c, k0_dev5_lt c⟩ | 6 => ⟨k0_dev6 c, k0_dev6_lt c⟩
  | 7 => ⟨k0_dev7 c, k0_dev7_lt c⟩ | _ => c
/-- The device that offset `t`'s query goes to. -/
def qDev (c : Dev nD) (t : Fin 8) : Dev nD := match t.val with
  | 1 => ⟨k0_dev8 c, k0_dev8_lt c⟩ | 2 => ⟨k0_dev9 c, k0_dev9_lt c⟩ | 3 => ⟨k0_dev10 c, k0_dev10_lt c⟩
  | 4 => ⟨k0_dev11 c, k0_dev11_lt c⟩ | 5 => ⟨k0_dev12 c, k0_dev12_lt c⟩ | 6 => ⟨k0_dev13 c, k0_dev13_lt c⟩
  | 7 => ⟨k0_dev14 c, k0_dev14_lt c⟩ | _ => c
/-- The device that block `j`'s weighted sums go to. -/
def oDev (c : Dev nD) (j : Fin 8) : Dev nD := match j.val with
  | 1 => ⟨k0_dev15 c, k0_dev15_lt c⟩ | 2 => ⟨k0_dev17 c, k0_dev17_lt c⟩ | 3 => ⟨k0_dev19 c, k0_dev19_lt c⟩
  | 4 => ⟨k0_dev21 c, k0_dev21_lt c⟩ | 5 => ⟨k0_dev23 c, k0_dev23_lt c⟩ | 6 => ⟨k0_dev25 c, k0_dev25_lt c⟩
  | 7 => ⟨k0_dev27 c, k0_dev27_lt c⟩ | _ => c
/-- The device that block `j`'s row sums go to. -/
def lDev (c : Dev nD) (j : Fin 8) : Dev nD := match j.val with
  | 1 => ⟨k0_dev16 c, k0_dev16_lt c⟩ | 2 => ⟨k0_dev18 c, k0_dev18_lt c⟩ | 3 => ⟨k0_dev20 c, k0_dev20_lt c⟩
  | 4 => ⟨k0_dev22 c, k0_dev22_lt c⟩ | 5 => ⟨k0_dev24 c, k0_dev24_lt c⟩ | 6 => ⟨k0_dev26 c, k0_dev26_lt c⟩
  | 7 => ⟨k0_dev28 c, k0_dev28_lt c⟩ | _ => c

/-! ## The operations -/

/-- One unit to the barrier of the device at offset `t`. -/
def sigOp (c : Dev nD) (t : Fin 8) : PB F PUnit := semSignalWord (sigDev c t) barS 1#32

/-- The start of one of the two local copies of head `h`. -/
def kvOp (M : Memref sig .tc .hbm S1x4096x8x128 .f32) (T : Memref sig .tc .vmem S2x4096x128 .f32)
    (A : DmaSems sig S2) (h : Fin 8) : PB F PUnit :=
  Prog.lift (.enqueueDma (slIn M h) (.here (slT T (par h))) (.dma (sem2 A (par h)))
    ((View.wordExact_bits rfl).reshape _ _) ((View.wordExact_bits rfl).reshape _ _) ⟨Or.inl rfl, trivial⟩)

/-- Both local copies of head `h`. -/
def kvStart (h : Fin 8) : PB F PUnit := do
  kvOp kIn ktmp cc0_scratch16 h
  kvOp vIn vtmp cc0_scratch17 h

/-- The wait for one of the local copies of head `h`. -/
def kvWait (M : Memref sig .tc .hbm S1x4096x8x128 .f32) (T : Memref sig .tc .vmem S2x4096x128 .f32)
    (A : DmaSems sig S2) (h : Fin 8) : PB F PUnit :=
  Prog.lift (.waitDma2 (sem2 A (par h)) (slIn M h) (slT T (par h))
    ((View.wordExact_bits rfl).reshape _ _) ((View.wordExact_bits rfl).reshape _ _))

/-- Head `h` of a staging buffer, converted into the buffer `B`. -/
def conv (T : Memref sig .tc .vmem S2x4096x128 .f32) (B : Memref sig .tc .vmem S8x4096x128 .bf16)
    (hB : B.IsWhole) (f : Vec F S1x4096x128 .f32 → FVec F S1x4096x128 .bf16) (h : Fin 8) : PB F PUnit := do
  let v ← Prog.lift (.load T (rT (par h)).toLoadRect (View.loadsAt_vmem h_S1x4096x128))
  let _ ← Prog.lift (.load B (rKV h).toLoadRect (View.loadsAt_vmem h_S1x4096x128))
  Prog.lift (.store B (rKV h) (f v) Finset.univ (View.stores_vmem h_S1x4096x128 (hB.storeExact_slice rfl _ (packedKV h)) (fun _ => rfl)) (.inl rfl))

/-- Head `h` against the queries of slot `j`: row sums to `lM`, weighted sums to `oM`, at slot `s`. -/
def attend (oM : Memref sig .tc .vmem S8x256x1024 .bf16) (hoM : oM.IsWhole) (lM : Memref sig .tc .vmem S8x256x8 .f32)
    (j s h : Fin 8) : PB F PUnit := do
  let q ← Prog.lift (.load qbuf (rQh j h).toLoadRect (View.loadsAt_vmem h_S1x256x128))
  let k ← Prog.lift (.load kbuf (rKV h).toLoadRect (View.loadsAt_vmem h_S1x4096x128))
  let _ ← Prog.lift (.load lM (rLh s h).toLoadRect (View.loadsAt_vmem h_S1x256x1))
  Prog.lift (.store lM (rLh s h) (k0_pay6 q k) Finset.univ (View.stores_vmem_bits_univ h_S1x256x1 rfl) (.inl rfl))
  let v ← Prog.lift (.load vbuf (rKV h).toLoadRect (View.loadsAt_vmem h_S1x4096x128))
  let _ ← Prog.lift (.load oM (rQh s h).toLoadRect (View.loadsAt_vmem h_S1x256x128))
  Prog.lift (.store oM (rQh s h) (k0_pay7 q k v) Finset.univ (View.stores_vmem h_S1x256x128 (hoM.storeExact_slice rfl _ (packedQh s h)) (fun _ => rfl)) (.inl rfl))

/-- The queries of the device, scaled, into slot 0. -/
def queries (a0 : Memref sig .tc .vmem S1x256x1024 .f32) (a1 : Memref sig .tc .vmem S1024x1024 .f32) : PB F PUnit := do
  let x ← Prog.lift (.load a0 (Rect.unit (s := S1x256x1024) ![0, 0, 0] S1x256x1024.size inbX).toLoadRect (View.loadsAt_vmem h_S1x256x1024))
  let w ← Prog.lift (.load a1 (Rect.unit (s := S1024x1024) ![0, 0] S1024x1024.size inbW).toLoadRect (View.loadsAt_vmem h_S1024x1024))
  let _ ← Prog.lift (.load qbuf (rQ 0).toLoadRect (View.loadsAt_vmem h_S1x256x1024))
  Prog.lift (.store qbuf (rQ 0) (k0_pay2 (k0_pay1 x) w) Finset.univ (View.stores_vmem h_S1x256x1024 ((Memref.isWhole_whole _).storeExact_slice rfl _ (packedQ 0)) (fun _ => rfl)) (.inl rfl))

/-- The queries to the device at offset `t`. -/
def qSend (c : Dev nD) (t : Fin 8) : PB F PUnit :=
  Prog.lift (.enqueueDma (slQ qbuf 0) (.remote (Dev.tc (qDev c t)) (slQ qbuf t) (.dma (sem8 cc0_scratch10 t)))
    (.dma (sem8 cc0_scratch11 t)) (((Memref.isWhole_whole _).wordExact_slice rfl _ (wordsQ 0)).reshape _ _)
    (((Memref.isWhole_whole _).wordExact_slice rfl _ (wordsQ t)).reshape _ _) ⟨⟨rfl, Or.inl rfl⟩, trivial⟩)

/-- The wait for the queries of the device at offset `-j`. -/
def qWait (j : Fin 8) : PB F PUnit :=
  Prog.lift (.waitDma2 (sem8 cc0_scratch11 j) (slQ qbuf 0) (slQ qbuf j)
    (((Memref.isWhole_whole _).wordExact_slice rfl _ (wordsQ 0)).reshape _ _)
    (((Memref.isWhole_whole _).wordExact_slice rfl _ (wordsQ j)).reshape _ _))

/-- The weighted sums of block `j` to the device whose queries they answer. -/
def oSend (c : Dev nD) (j : Fin 8) : PB F PUnit :=
  Prog.lift (.enqueueDma (slQ osend (-j)) (.remote (Dev.tc (oDev c j)) (slQ orecv (-j)) (.dma (sem8 cc0_scratch12 (-j))))
    (.dma (sem8 cc0_scratch13 (-j))) (((Memref.isWhole_whole _).wordExact_slice rfl _ (wordsQ (-j))).reshape _ _)
    (((Memref.isWhole_whole _).wordExact_slice rfl _ (wordsQ (-j))).reshape _ _) ⟨⟨rfl, Or.inl rfl⟩, trivial⟩)

/-- The row sums of block `j` to the device whose queries they answer. -/
def lSend (c : Dev nD) (j : Fin 8) : PB F PUnit :=
  Prog.lift (.enqueueDma (slL lsend (-j)) (.remote (Dev.tc (lDev c j)) (slL lrecv (-j)) (.dma (sem8 cc0_scratch14 (-j))))
    (.dma (sem8 cc0_scratch15 (-j))) ((View.wordExact_bits rfl).reshape _ _) ((View.wordExact_bits rfl).reshape _ _) ⟨⟨rfl, Or.inl rfl⟩, trivial⟩)

/-- Head `h` of the first block: keys and values converted, the next copies started, slot 0 served. -/
def head (h : Fin 8) (next : PB F PUnit) : PB F PUnit := do
  kvWait kIn ktmp cc0_scratch16 h
  kvWait vIn vtmp cc0_scratch17 h
  conv ktmp kbuf (Memref.isWhole_whole _) k0_pay3 h
  conv vtmp vbuf (Memref.isWhole_whole _) k0_pay4 h
  next
  attend orecv (Memref.isWhole_whole _) lrecv 0 0 h

/-- What head `h` of the first block starts: the copies of head `h + 2`, if there is one. -/
def nextKv (h : Fin 8) : PB F PUnit := if h.val < 6 then kvStart (h + 2) else pure ⟨⟩

/-- Block `j`: the queries of the device at offset `-j` served and the sums sent back. -/
def block (c : Dev nD) (j : Fin 8) : PB F PUnit := do
  qWait j
  seq8 (fun h => attend osend (Memref.isWhole_whole _) lsend j (-j) h)
  oSend c j
  lSend c j

/-- The pair of running sums. -/
abbrev Acc (F : FTy → Type) [FloatOps F] : Type := FVec F S256x1024 .f32 × FVec F S256x8 .f32

def acc0 (o : Vec F S1x256x1024 .bf16) (l : Vec F S1x256x8 .f32) : Acc F :=
  (extf .f32 (shapeCast S256x1024 (o : FVec F S1x256x1024 .bf16) shapeCasts_S1x256x1024_S256x1024 : FVec F S256x1024 .bf16) bitsLt_bf16_f32,
   shapeCast S256x8 (l : FVec F S1x256x8 .f32) shapeCasts_S1x256x8_S256x8)
def accStep (a : Acc F) (o : Vec F S1x256x1024 .bf16) (l : Vec F S1x256x8 .f32) : Acc F :=
  (addf a.1 (acc0 o l).1, addf a.2 (acc0 o l).2)

/-- The sums of slot `j` read. -/
def accLoad (j : Fin 8) : PB F (Vec F S1x256x1024 .bf16 × Vec F S1x256x8 .f32) := do
  let o ← Prog.lift (.load orecv (rQ j).toLoadRect (View.loadsAt_vmem h_S1x256x1024))
  let l ← Prog.lift (.load lrecv (rL j).toLoadRect (View.loadsAt_vmem h_S1x256x8))
  pure (o, l)

/-- The sums of the device at offset `-j` awaited. -/
def olWait (j : Fin 8) : PB F PUnit := do
  Prog.lift (.waitDma2 (sem8 cc0_scratch13 j) (slQ osend j) (slQ orecv j)
    (((Memref.isWhole_whole _).wordExact_slice rfl _ (wordsQ j)).reshape _ _)
    (((Memref.isWhole_whole _).wordExact_slice rfl _ (wordsQ j)).reshape _ _))
  Prog.lift (.waitDma2 (sem8 cc0_scratch15 j) (slL lsend j) (slL lrecv j)
    ((View.wordExact_bits rfl).reshape _ _) ((View.wordExact_bits rfl).reshape _ _))

/-- One step of the sums. -/
def recvStep (j : Fin 8) (a : Acc F) : PB F (Acc F) := do
  olWait j
  let p ← accLoad j
  pure (accStep a p.1 p.2)

/-- All sums. -/
def recvs : PB F (Acc F) := do
  let p ← accLoad 0
  let a ← recvStep 1 (acc0 p.1 p.2)
  let a ← recvStep 2 a
  let a ← recvStep 3 a
  let a ← recvStep 4 a
  let a ← recvStep 5 a
  let a ← recvStep 6 a
  recvStep 7 a

theorem slicesO : ∀ h : Fin 8, S256x1024.Slices ![0, 128 * h.val] S256x128 := by decide
theorem slicesL : ∀ h : Fin 8, S256x8.Slices ![0, h.val] S256x1 := by decide

/-- Head `h` of the normalised sums. -/
def normV (a : Acc F) (h : Fin 8) : FVec F S256x128 .bf16 :=
  shapeCast S256x128 (truncf .bf16 (divf (extractStridedSlice S256x128 ![0, 128 * h.val] a.1 (slicesO h))
    (broadcastTo S256x128 (extractStridedSlice S256x1 ![0, h.val] a.2 (slicesL h)) broadcasts_S256x1_S256x128)) bitsLt_bf16_f32)
    shapeCasts_S256x128_S256x128

/-- Head `h` of the normalised sums stored. -/
def norm (a : Acc F) (h : Fin 8) : PB F PUnit := do
  let _ ← Prog.lift (.load attbuf (rA h).toLoadRect (View.loadsAt_vmem h_S256x128))
  Prog.lift (.store attbuf (rA h) (normV a h) Finset.univ (View.stores_vmem h_S256x128 ((Memref.isWhole_whole _).storeExact_slice rfl _ (packedA h)) (fun _ => rfl)) (.inl rfl))

/-- The output projection. -/
def project (a2 : Memref sig .tc .vmem S1024x1024 .f32) (a5 : Memref sig .tc .vmem S1x256x1024 .f32) : PB F PUnit := do
  let x ← Prog.lift (.load attbuf (Rect.unit (s := S256x1024) ![0, 0] S256x1024.size inbAtt).toLoadRect (View.loadsAt_vmem h_S256x1024))
  let w ← Prog.lift (.load a2 (Rect.unit (s := S1024x1024) ![0, 0] S1024x1024.size inbW).toLoadRect (View.loadsAt_vmem h_S1024x1024))
  let _ ← Prog.lift (.load a5 (Rect.unit (s := S1x256x1024) ![0, 0, 0] S1x256x1024.size inbX).toLoadRect (View.loadsAt_vmem h_S1x256x1024))
  Prog.lift (.store a5 (Rect.unit (s := S1x256x1024) ![0, 0, 0] S1x256x1024.size inbX) (k0_pay276 (k0_pay275 x w)) Finset.univ (View.stores_vmem_bits_univ h_S1x256x1024 rfl) (.inl rfl))

/-- The wait for the copy of the queries to offset `t` to have left. -/
def qLeft (t : Fin 8) : PB F PUnit :=
  Prog.lift (.waitDma2 (sem8 cc0_scratch10 t) (slQ qbuf t) (slQ qbuf 0)
    (((Memref.isWhole_whole _).wordExact_slice rfl _ (wordsQ t)).reshape _ _)
    (((Memref.isWhole_whole _).wordExact_slice rfl _ (wordsQ 0)).reshape _ _))

/-- The wait for the copies of block `j`'s sums to have left. -/
def olLeft (j : Fin 8) : PB F PUnit := do
  Prog.lift (.waitDma2 (sem8 cc0_scratch12 (-j)) (slQ orecv (-j)) (slQ osend (-j))
    (((Memref.isWhole_whole _).wordExact_slice rfl _ (wordsQ (-j))).reshape _ _)
    (((Memref.isWhole_whole _).wordExact_slice rfl _ (wordsQ (-j))).reshape _ _))
  Prog.lift (.waitDma2 (sem8 cc0_scratch14 (-j)) (slL lrecv (-j)) (slL lsend (-j))
    ((View.wordExact_bits rfl).reshape _ _) ((View.wordExact_bits rfl).reshape _ _))

/-- Everything after the device is known. -/
def flatAt (a0 : Memref sig .tc .vmem S1x256x1024 .f32) (a1 a2 : Memref sig .tc .vmem S1024x1024 .f32)
    (a5 : Memref sig .tc .vmem S1x256x1024 .f32) (c : Dev nD) : PB F PUnit := do
  seq7 (sigOp c)
  kvStart 0
  kvStart 1
  queries a0 a1
  semWaitWord barS 7#32
  seq7 (qSend c)
  seq8 (fun h => head h (nextKv h))
  seq7 (block c)
  let a ← recvs
  seq8 (norm a)
  project a2 a5
  seq7 qLeft
  seq7 olLeft

/-- The body. -/
def flat (a0 : Memref sig .tc .vmem S1x256x1024 .f32) (a1 a2 : Memref sig .tc .vmem S1024x1024 .f32)
    (a5 : Memref sig .tc .vmem S1x256x1024 .f32) : PB F PUnit := do
  let c ← Prog.lift .deviceId
  flatAt a0 a1 a2 a5 c

/-- The printed body is the structured one. -/
theorem body_flat (a0 : Memref sig .tc .vmem S1x256x1024 .f32) (h0 : a0.IsWhole) (a1 : Memref sig .tc .vmem S1024x1024 .f32)
    (h1 : a1.IsWhole) (a2 : Memref sig .tc .vmem S1024x1024 .f32) (h2 : a2.IsWhole)
    (a5 : Memref sig .tc .vmem S1x256x1024 .f32) (h5 : a5.IsWhole) :
    cc0_body (F := F) a0 h0 a1 h1 a2 h2 (Memref.whole main_arg2) (Memref.isWhole_whole _) (Memref.whole main_arg3) (Memref.isWhole_whole _) a5 h5
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      cc0_scratch10 cc0_scratch11 cc0_scratch12 cc0_scratch13 cc0_scratch14 cc0_scratch15 cc0_scratch16 cc0_scratch17
    = flat a0 a1 a2 a5 := by
  chain_rfl

end Cert.KernelIdeal.Pf
-- ==== Proof.KernelIdeal.Geom.lean ====
/- The rectangles of the buffers, index by index: which elements a slot or a head's part has, what a
   load reads there and what a store or a copy leaves there. -/
module

public import proofs.«01_k».proof.Proof.KernelIdeal.Flat
public import Idealize.ShloMosaic.Lib.ValueLayout
public import Idealize.ShloMosaic.Lib.ValueIdxCore

@[expose] public section

noncomputable section

namespace Cert.KernelIdeal.Pf

open Cert.KernelIdeal Cert.KernelIdeal.Gen
open Idealize.ShloMosaic Idealize.ShloMosaic.TcCoe Idealize.SL.Sem
open Idealize.ShloMosaic.ValueIdx

variable {F : FTy → Type} [FloatOps F]

/-! ## Any whole buffer -/

section Whole
variable {b : Ref sig .tc} (r : Rect b.ty.shape) (f : b.ty.Contents (Elt F))

omit [FloatOps F] in
theorem set_access : ((Memref.whole b).access r).setOn Finset.univ = r.set := View.set_slice_whole b r

omit [FloatOps F] in
theorem set_access1 : ((Memref.whole b).access r).set = r.set := View.set_slice_whole b r

omit [FloatOps F] in
theorem rd_at (x : r.shape.Idx) : (Memref.whole b).view.readAt (Elt F) r.toLoadRect f x = f (r.emb x) := rfl

omit [FloatOps F] in
theorem wr_in (w : r.shape.Idx → Elt F b.ty.elt) (x : r.shape.Idx) :
    ((Memref.whole b).access r).write (Elt F) f w Finset.univ (r.emb x) = w x :=
  View.write_emb_of_mem (v := ((Memref.whole b).access r)) f w (Finset.mem_univ x)

omit [FloatOps F] in
theorem wr_out (w : r.shape.Idx → Elt F b.ty.elt) (i : b.ty.shape.Idx) (h : i ∉ r.set) :
    ((Memref.whole b).access r).write (Elt F) f w Finset.univ i = f i :=
  View.write_of_not_mem (v := ((Memref.whole b).access r)) f w Finset.univ (by rw [set_access]; exact h)

variable {s' : Shape} (hr : ∀ a, r.stride a = 1) (hq : r.shape.Squeezes s')

omit [FloatOps F] in
theorem set_sl : (((Memref.whole b).slice r hr).squeeze s' hq).view.set = r.set :=
  (View.set_reshape (v := ((Memref.whole b).slice r hr).view) hq.numel_eq).trans (View.set_slice_whole b r)

omit [FloatOps F] in
/-- A copy into a slice: the element under `x`. -/
theorem cp_in (w : s'.Idx → Elt F b.ty.elt) (x : s'.Idx) :
    (((Memref.whole b).slice r hr).squeeze s' hq).view.write (Elt F) f w Finset.univ (r.emb (Shape.reshapeEquiv hq.numel_eq x)) = w x :=
  View.write_emb_of_mem (v := (((Memref.whole b).slice r hr).squeeze s' hq).view) f w (Finset.mem_univ x)

omit [FloatOps F] in
theorem rd_sl (x : s'.Idx) :
    (((Memref.whole b).slice r hr).squeeze s' hq).view.read (Elt F) f x = f (r.emb (Shape.reshapeEquiv hq.numel_eq x)) := rfl

end Whole

/-! ## The rectangles' elements -/

theorem emb_rQ (t : Fin 8) (a : Fin 1) (x : Fin 256) (y : Fin 1024) : (rQ t).emb (ix3 a x y) = ix3 t x y := by
  funext d; fin_cases d <;> apply Fin.ext <;> simp [Fin.fin_one_eq_zero]
theorem emb_rQh (t h : Fin 8) (a : Fin 1) (x : Fin 256) (y : Fin 128) :
    (rQh t h).emb (ix3 a x y) = ix3 t x ⟨128 * h.val + y.val, by omega⟩ := by
  funext d; fin_cases d <;> apply Fin.ext <;> simp [Fin.fin_one_eq_zero]
theorem emb_rKV (h : Fin 8) (a : Fin 1) (x : Fin 4096) (y : Fin 128) : (rKV h).emb (ix3 a x y) = ix3 h x y := by
  funext d; fin_cases d <;> apply Fin.ext <;> simp [Fin.fin_one_eq_zero]
theorem emb_rT (σ : Fin 2) (a : Fin 1) (x : Fin 4096) (y : Fin 128) : (rT σ).emb (ix3 a x y) = ix3 σ x y := by
  funext d; fin_cases d <;> apply Fin.ext <;> simp [Fin.fin_one_eq_zero]
theorem emb_rL (t : Fin 8) (a : Fin 1) (x : Fin 256) (y : Fin 8) : (rL t).emb (ix3 a x y) = ix3 t x y := by
  funext d; fin_cases d <;> apply Fin.ext <;> simp [Fin.fin_one_eq_zero]
theorem emb_rLh (t h : Fin 8) (a : Fin 1) (x : Fin 256) (y : Fin 1) : (rLh t h).emb (ix3 a x y) = ix3 t x h := by
  funext d; fin_cases d <;> apply Fin.ext <;> simp [Fin.fin_one_eq_zero]
theorem emb_rA (h : Fin 8) (x : Fin 256) (y : Fin 128) : (rA h).emb (ix2 x y) = ix2 x ⟨128 * h.val + y.val, by omega⟩ := by
  funext d; fin_cases d <;> apply Fin.ext <;> simp
theorem emb_rIn (h : Fin 8) (a c : Fin 1) (x : Fin 4096) (y : Fin 128) : (rIn h).emb (ix4 a x c y) = ix4 0 x h y := by
  funext d; fin_cases d <;> apply Fin.ext <;> simp [Fin.fin_one_eq_zero]

theorem mem_rQ (t : Fin 8) (i : S8x256x1024.Idx) : i ∈ (rQ t).set ↔ (i 0 : Fin 8) = t := by
  have h0 := (i 0).isLt; have h1 := (i 1).isLt; have h2 := (i 2).isLt
  refine Iff.trans ?_ (Fin.ext_iff.symm)
  rw [Rect.mem_set_unit]
  simp only [Fin.forall_fin_succ]
  simp at *
  omega
theorem mem_rQh (t h : Fin 8) (i : S8x256x1024.Idx) : i ∈ (rQh t h).set ↔ (i 0 : Fin 8) = t ∧ 128 * h.val ≤ (i 2).val ∧ (i 2).val < 128 * h.val + 128 := by
  have h0 := (i 0).isLt; have h1 := (i 1).isLt; have h2 := (i 2).isLt
  refine Iff.trans ?_ ((and_congr_left' Fin.ext_iff).symm)
  rw [Rect.mem_set_unit]
  simp only [Fin.forall_fin_succ]
  simp at *
  omega
theorem mem_rKV (h : Fin 8) (i : S8x4096x128.Idx) : i ∈ (rKV h).set ↔ (i 0 : Fin 8) = h := by
  have h0 := (i 0).isLt; have h1 := (i 1).isLt; have h2 := (i 2).isLt
  refine Iff.trans ?_ (Fin.ext_iff.symm)
  rw [Rect.mem_set_unit]
  simp only [Fin.forall_fin_succ]
  simp at *
  omega
theorem mem_rT (σ : Fin 2) (i : S2x4096x128.Idx) : i ∈ (rT σ).set ↔ (i 0 : Fin 2) = σ := by
  have h0 := (i 0).isLt; have h1 := (i 1).isLt; have h2 := (i 2).isLt
  refine Iff.trans ?_ (Fin.ext_iff.symm)
  rw [Rect.mem_set_unit]
  simp only [Fin.forall_fin_succ]
  simp at *
  omega
theorem mem_rL (t : Fin 8) (i : S8x256x8.Idx) : i ∈ (rL t).set ↔ (i 0 : Fin 8) = t := by
  have h0 := (i 0).isLt; have h1 := (i 1).isLt; have h2 := (i 2).isLt
  refine Iff.trans ?_ (Fin.ext_iff.symm)
  rw [Rect.mem_set_unit]
  simp only [Fin.forall_fin_succ]
  simp at *
  omega
theorem mem_rLh (t h : Fin 8) (i : S8x256x8.Idx) : i ∈ (rLh t h).set ↔ (i 0 : Fin 8) = t ∧ (i 2 : Fin 8) = h := by
  have h0 := (i 0).isLt; have h1 := (i 1).isLt; have h2 := (i 2).isLt
  refine Iff.trans ?_ ((and_congr Fin.ext_iff Fin.ext_iff).symm)
  rw [Rect.mem_set_unit]
  simp only [Fin.forall_fin_succ]
  simp at *
  omega
theorem mem_rA (h : Fin 8) (i : S256x1024.Idx) : i ∈ (rA h).set ↔ 128 * h.val ≤ (i 1).val ∧ (i 1).val < 128 * h.val + 128 := by
  have h0 := (i 0).isLt; have h1 := (i 1).isLt
  rw [Rect.mem_set_unit]
  simp only [Fin.forall_fin_succ]
  simp at *
  omega

/-! ## Slots: disjoint, and together the buffer -/

theorem rQ_disj (s t : Fin 8) (h : s ≠ t) : Disjoint (rQ s).set (rQ t).set :=
  Finset.disjoint_left.mpr fun i hs ht => h (((mem_rQ s i).mp hs).symm.trans ((mem_rQ t i).mp ht))
theorem rL_disj (s t : Fin 8) (h : s ≠ t) : Disjoint (rL s).set (rL t).set :=
  Finset.disjoint_left.mpr fun i hs ht => h (((mem_rL s i).mp hs).symm.trans ((mem_rL t i).mp ht))
theorem rT_disj (s t : Fin 2) (h : s ≠ t) : Disjoint (rT s).set (rT t).set :=
  Finset.disjoint_left.mpr fun i hs ht => h (((mem_rT s i).mp hs).symm.trans ((mem_rT t i).mp ht))
theorem rQ_cover : Finset.univ.biUnion (fun t : Fin 8 => (rQ t).set) = (Finset.univ : Finset S8x256x1024.Idx) :=
  Finset.eq_univ_iff_forall.mpr fun i => Finset.mem_biUnion.mpr ⟨i 0, Finset.mem_univ _, (mem_rQ _ i).mpr rfl⟩
theorem rL_cover : Finset.univ.biUnion (fun t : Fin 8 => (rL t).set) = (Finset.univ : Finset S8x256x8.Idx) :=
  Finset.eq_univ_iff_forall.mpr fun i => Finset.mem_biUnion.mpr ⟨i 0, Finset.mem_univ _, (mem_rL _ i).mpr rfl⟩
theorem rT_cover : Finset.univ.biUnion (fun t : Fin 2 => (rT t).set) = (Finset.univ : Finset S2x4096x128.Idx) :=
  Finset.eq_univ_iff_forall.mpr fun i => Finset.mem_biUnion.mpr ⟨i 0, Finset.mem_univ _, (mem_rT _ i).mpr rfl⟩
theorem rQh_sub (t h : Fin 8) : (rQh t h).set ⊆ (rQ t).set := fun i hi => (mem_rQ t i).mpr ((mem_rQh t h i).mp hi).1
theorem rLh_sub (t h : Fin 8) : (rLh t h).set ⊆ (rL t).set := fun i hi => (mem_rL t i).mpr ((mem_rLh t h i).mp hi).1

/-! ## Matching the squeezed axes -/

theorem sq_Q (hn : S256x1024.numel = S1x256x1024.numel) (x : Fin 256) (y : Fin 1024) :
    Shape.reshapeEquiv hn (ix2 x y : S256x1024.Idx) = (ix3 (0 : Fin 1) x y : S1x256x1024.Idx) := reshapeEquiv_ix2_1ab hn x y
theorem sq_L (hn : S256x8.numel = S1x256x8.numel) (x : Fin 256) (y : Fin 8) :
    Shape.reshapeEquiv hn (ix2 x y : S256x8.Idx) = (ix3 (0 : Fin 1) x y : S1x256x8.Idx) := reshapeEquiv_ix2_1ab hn x y
theorem sq_T (hn : S4096x128.numel = S1x4096x128.numel) (x : Fin 4096) (y : Fin 128) :
    Shape.reshapeEquiv hn (ix2 x y : S4096x128.Idx) = (ix3 (0 : Fin 1) x y : S1x4096x128.Idx) := reshapeEquiv_ix2_1ab hn x y
theorem sq_In (hn : S4096x128.numel = S1x4096x1x128.numel) (x : Fin 4096) (y : Fin 128) :
    Shape.reshapeEquiv hn (ix2 x y : S4096x128.Idx) = (ix4 (0 : Fin 1) x (0 : Fin 1) y : S1x4096x1x128.Idx) :=
  Shape.reshapeEquiv_eq_of_rowMajor hn (by
    rw [Shape.rowMajor_val_four, Shape.rowMajor_val_two]
    show (((0 * 4096 + x.val) * 1 + 0) * 128 + y.val) = x.val * 128 + y.val
    omega)

end Cert.KernelIdeal.Pf
-- ==== Proof.KernelIdeal.Cont.lean ====
/- What the kernel computes, device by device: the contents each buffer is to hold, as functions of
   the devices' arguments, and the devices the kernel's operations name. -/
module

public import proofs.«01_k».proof.Proof.KernelIdeal.Geom

@[expose] public section

noncomputable section

namespace Cert.KernelIdeal.Pf

open Cert.KernelIdeal Cert.KernelIdeal.Gen
open Idealize.ShloMosaic Idealize.ShloMosaic.TcCoe Idealize.SL.Sem
open Idealize.ShloMosaic.ValueIdx

variable {F : FTy → Type} [FloatOps F]

/-! ## Devices -/

/-- The device `t` steps up, and the one `t` steps down, round the eight. -/
abbrev up (c : Dev nD) (t : Fin 8) : Dev nD := (show Fin 8 from c) + t
abbrev dn (c : Dev nD) (t : Fin 8) : Dev nD := (show Fin 8 from c) - t

theorem up_dn : ∀ (c : Dev nD) (t : Fin 8), up (dn c t) t = c := by decide +kernel
theorem dn_up : ∀ (c : Dev nD) (t : Fin 8), dn (up c t) t = c := by decide +kernel
theorem up_neg : ∀ (c : Dev nD) (t : Fin 8), up c (-t) = dn c t := by decide +kernel
theorem dn_neg : ∀ (c : Dev nD) (t : Fin 8), dn c (-t) = up c t := by decide +kernel
theorem dn_zero : ∀ c : Dev nD, dn c 0 = c := by decide +kernel

theorem sigDev_eq : ∀ (c : Dev nD) (t : Fin 8), t ≠ 0 → sigDev c t = up c t := by decide +kernel
theorem qDev_eq : ∀ (c : Dev nD) (t : Fin 8), t ≠ 0 → qDev c t = up c t := by decide +kernel
theorem oDev_eq : ∀ (c : Dev nD) (j : Fin 8), j ≠ 0 → oDev c j = dn c j := by decide +kernel
theorem lDev_eq : ∀ (c : Dev nD) (j : Fin 8), j ≠ 0 → lDev c j = dn c j := by decide +kernel

/-! ## The arguments -/

/-- The devices' arguments. -/
structure Inp (F : FTy → Type) [FloatOps F] where
  x : Dev nD → Vec F S1x256x1024 .f32
  wq : Dev nD → Vec F S1024x1024 .f32
  k : Dev nD → Vec F S1x4096x8x128 .f32
  v : Dev nD → Vec F S1x4096x8x128 .f32
  wo : Dev nD → Vec F S1024x1024 .f32

variable (I : Inp F)

/-! ## Columns of eight heads -/

/-- The head of a column, and its place in the head. -/
abbrev hd (y : Fin 1024) : Fin 8 := ⟨y.val / 128, by omega⟩
abbrev lo (y : Fin 1024) : Fin 128 := ⟨y.val % 128, Nat.mod_lt _ (by decide)⟩
/-- Column `y` of head `h`. -/
abbrev col (h : Fin 8) (y : Fin 128) : Fin 1024 := ⟨128 * h.val + y.val, by omega⟩

theorem hd_col (h : Fin 8) (y : Fin 128) : hd (col h y) = h := Fin.ext (by show (128 * h.val + y.val) / 128 = h.val; omega)
theorem lo_col (h : Fin 8) (y : Fin 128) : lo (col h y) = y := Fin.ext (by show (128 * h.val + y.val) % 128 = y.val; omega)
theorem col_hd (y : Fin 1024) : col (hd y) (lo y) = y := Fin.ext (by show 128 * (y.val / 128) + y.val % 128 = y.val; omega)

/-! ## One device's blocks -/

/-- The scaled queries of device `c`. -/
def Qv (c : Dev nD) : FVec F S1x256x1024 .bf16 := k0_pay2 (k0_pay1 (I.x c)) (I.wq c)
/-- Head `h` of a device's keys or values. -/
def headIn (w : Vec F S1x4096x8x128 .f32) (h : Fin 8) : Vec F S1x4096x128 .f32 := fun i => w (ix4 0 (i 1) h (i 2))
def Kv (c : Dev nD) (h : Fin 8) : FVec F S1x4096x128 .bf16 := k0_pay3 (headIn (I.k c) h)
def Vv (c : Dev nD) (h : Fin 8) : FVec F S1x4096x128 .bf16 := k0_pay4 (headIn (I.v c) h)
/-- Head `h` of the queries of device `e`. -/
def qh (e : Dev nD) (h : Fin 8) : FVec F S1x256x128 .bf16 := fun i => Qv I e (ix3 0 (i 1) (col h (i 2)))
/-- What device `d` finds for the queries of device `e`: weighted sums and row sums. -/
def oPart (d e : Dev nD) (h : Fin 8) : FVec F S1x256x128 .bf16 := k0_pay7 (qh I e h) (Kv I d h) (Vv I d h)
def lPart (d e : Dev nD) (h : Fin 8) : FVec F S1x256x1 .f32 := k0_pay6 (qh I e h) (Kv I d h)

/-! ## Whole buffers -/

/-- Every slot holding the heads `f` side by side. -/
def oT (f : Fin 8 → FVec F S1x256x128 .bf16) (i : S8x256x1024.Idx) : F .bf16 := f (hd (i 2)) (ix3 0 (i 1) (lo (i 2)))
def lT (f : Fin 8 → FVec F S1x256x1 .f32) (i : S8x256x8.Idx) : F .f32 := f (i 2) (ix3 0 (i 1) 0)

def qC (c : Dev nD) (i : S8x256x1024.Idx) : F .bf16 := Qv I (dn c (i 0)) (ix3 0 (i 1) (i 2))
def kC (c : Dev nD) (i : S8x4096x128.Idx) : F .bf16 := Kv I c (i 0) (ix3 0 (i 1) (i 2))
def vC (c : Dev nD) (i : S8x4096x128.Idx) : F .bf16 := Vv I c (i 0) (ix3 0 (i 1) (i 2))
def osC (c : Dev nD) (i : S8x256x1024.Idx) : F .bf16 := oT (oPart I c (up c (i 0))) i
def orC (c : Dev nD) (i : S8x256x1024.Idx) : F .bf16 := oT (oPart I (dn c (i 0)) c) i
def lsC (c : Dev nD) (i : S8x256x8.Idx) : F .f32 := lT (lPart I c (up c (i 0))) i
def lrC (c : Dev nD) (i : S8x256x8.Idx) : F .f32 := lT (lPart I (dn c (i 0)) c) i

/-- Slot `j` of the sums received by device `c`. -/
def oSl (c : Dev nD) (j : Fin 8) : Vec F S1x256x1024 .bf16 := fun i => orC I c (ix3 j (i 1) (i 2))
def lSl (c : Dev nD) (j : Fin 8) : Vec F S1x256x8 .f32 := fun i => lrC I c (ix3 j (i 1) (i 2))
/-- The sums over slots 0, …, n. -/
def accN (c : Dev nD) : ℕ → Acc F
  | 0 => acc0 (oSl I c 0) (lSl I c 0)
  | n + 1 => accStep (accN c n) (oSl I c (Fin.ofNat 8 (n + 1))) (lSl I c (Fin.ofNat 8 (n + 1)))
/-- The normalised sums, all heads side by side. -/
def attOf (a : Acc F) (i : S256x1024.Idx) : F .bf16 := normV a (hd (i 1)) (ix2 (i 0) (lo (i 1)))
/-- The block of the result on device `c`. -/
def outAt (c : Dev nD) : FVec F S1x256x1024 .f32 := k0_pay276 (k0_pay275 (attOf (accN I c 7)) (I.wo c))

/-! ## Reading them -/

theorem rd_qC (c : Dev nD) (j h : Fin 8) : (fun x => qC I c ((rQh j h).emb x)) = qh I (dn c j) h := by
  funext x
  obtain ⟨a, b, d, rfl⟩ : ∃ a b d, x = ix3 a b d := ⟨_, _, _, eq_ix3 x⟩
  exact congrArg (qC I c) (emb_rQh j h a b d)

theorem rd_kC (c : Dev nD) (h : Fin 8) : (fun x => kC I c ((rKV h).emb x)) = Kv I c h := by
  funext x
  obtain ⟨a, b, d, rfl⟩ : ∃ a b d, x = ix3 a b d := ⟨_, _, _, eq_ix3 x⟩
  refine (congrArg (kC I c) (emb_rKV h a b d)).trans ?_
  exact congrArg (fun a => Kv I c h (ix3 a b d)) (Subsingleton.elim (0 : Fin 1) a)

theorem rd_vC (c : Dev nD) (h : Fin 8) : (fun x => vC I c ((rKV h).emb x)) = Vv I c h := by
  funext x
  obtain ⟨a, b, d, rfl⟩ : ∃ a b d, x = ix3 a b d := ⟨_, _, _, eq_ix3 x⟩
  refine (congrArg (vC I c) (emb_rKV h a b d)).trans ?_
  exact congrArg (fun a => Vv I c h (ix3 a b d)) (Subsingleton.elim (0 : Fin 1) a)

theorem rd_orC (c : Dev nD) (j : Fin 8) : (fun x => orC I c ((rQ j).emb x)) = oSl I c j := by
  funext x
  obtain ⟨a, b, d, rfl⟩ : ∃ a b d, x = ix3 a b d := ⟨_, _, _, eq_ix3 x⟩
  exact congrArg (orC I c) (emb_rQ j a b d)

theorem rd_lrC (c : Dev nD) (j : Fin 8) : (fun x => lrC I c ((rL j).emb x)) = lSl I c j := by
  funext x
  obtain ⟨a, b, d, rfl⟩ : ∃ a b d, x = ix3 a b d := ⟨_, _, _, eq_ix3 x⟩
  exact congrArg (lrC I c) (emb_rL j a b d)

/-! ## Index of an element of a rectangle -/

theorem of_mem_rQ (t : Fin 8) (i : S8x256x1024.Idx) (hi : i ∈ (rQ t).set) : i = (rQ t).emb (ix3 0 (i 1) (i 2)) :=
  (eq_ix3 i).trans ((congrArg (fun a => ix3 a (i 1) (i 2)) ((mem_rQ t i).mp hi)).trans (emb_rQ t 0 (i 1) (i 2)).symm)
theorem of_mem_rL (t : Fin 8) (i : S8x256x8.Idx) (hi : i ∈ (rL t).set) : i = (rL t).emb (ix3 0 (i 1) (i 2)) :=
  (eq_ix3 i).trans ((congrArg (fun a => ix3 a (i 1) (i 2)) ((mem_rL t i).mp hi)).trans (emb_rL t 0 (i 1) (i 2)).symm)
theorem of_mem_rT (σ : Fin 2) (i : S2x4096x128.Idx) (hi : i ∈ (rT σ).set) : i = (rT σ).emb (ix3 0 (i 1) (i 2)) :=
  (eq_ix3 i).trans ((congrArg (fun a => ix3 a (i 1) (i 2)) ((mem_rT σ i).mp hi)).trans (emb_rT σ 0 (i 1) (i 2)).symm)
theorem of_mem_rKV (h : Fin 8) (i : S8x4096x128.Idx) (hi : i ∈ (rKV h).set) : i = (rKV h).emb (ix3 0 (i 1) (i 2)) :=
  (eq_ix3 i).trans ((congrArg (fun a => ix3 a (i 1) (i 2)) ((mem_rKV h i).mp hi)).trans (emb_rKV h 0 (i 1) (i 2)).symm)
theorem of_mem_rLh (t h : Fin 8) (i : S8x256x8.Idx) (hi : i ∈ (rLh t h).set) : i = (rLh t h).emb (ix3 0 (i 1) 0) :=
  (eq_ix3 i).trans ((congrArg₂ (fun a b => ix3 a (i 1) b) ((mem_rLh t h i).mp hi).1 ((mem_rLh t h i).mp hi).2).trans (emb_rLh t h 0 (i 1) 0).symm)
theorem hd_of_mem_rQh (t h : Fin 8) (i : S8x256x1024.Idx) (hi : i ∈ (rQh t h).set) : hd (i 2) = h := by
  have := ((mem_rQh t h i).mp hi).2
  exact Fin.ext (by show (i 2).val / 128 = h.val; omega)
theorem of_mem_rQh (t h : Fin 8) (i : S8x256x1024.Idx) (hi : i ∈ (rQh t h).set) : i = (rQh t h).emb (ix3 0 (i 1) (lo (i 2))) := by
  have e : col h (lo (i 2)) = i 2 := by
    have := col_hd (i 2); rwa [hd_of_mem_rQh t h i hi] at this
  exact (eq_ix3 i).trans ((congrArg₂ (fun a b => ix3 a (i 1) b) ((mem_rQh t h i).mp hi).1 e.symm).trans (emb_rQh t h 0 (i 1) (lo (i 2))).symm)
theorem hd_of_mem_rA (h : Fin 8) (i : S256x1024.Idx) (hi : i ∈ (rA h).set) : hd (i 1) = h := by
  have := (mem_rA h i).mp hi
  exact Fin.ext (by show (i 1).val / 128 = h.val; omega)
theorem of_mem_rA (h : Fin 8) (i : S256x1024.Idx) (hi : i ∈ (rA h).set) : i = (rA h).emb (ix2 (i 0) (lo (i 1))) := by
  have e : col h (lo (i 1)) = i 1 := by
    have := col_hd (i 1); rwa [hd_of_mem_rA h i hi] at this
  exact (eq_ix2 i).trans ((congrArg (ix2 (i 0)) e.symm).trans (emb_rA h (i 0) (lo (i 1))).symm)

end Cert.KernelIdeal.Pf
-- ==== Proof.KernelIdeal.Sched.lean ====
/- The devices' conversation: the semaphore cells, what every unit on them hands over, what each
   device owes at each moment and the order of levels under which every wait ends. -/
module

public import proofs.«01_k».proof.Proof.KernelIdeal.Cont
public import Idealize.ShloMosaic.Lib.Rounds
public import Idealize.ShloMosaic.Lib.Transfers

@[expose] public section

set_option synthInstance.maxSize 4096

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop Flight)

variable {F : FTy → Type} [FloatOps F]

/-! ## The resource algebra: the pipeline's rounds, the conversation's, the local copies' counters -/

abbrev UB : Type := URounds (GSem nD τ sig) (Fin 8)
abbrev UU : Type := UR sig nD τ × (UB × Counters)

local notation "𝕄" => MT nD τ sig Unit (Elt F) ℕ UU ℕ

abbrev EP : Emb (UR sig nD τ) 𝕄 := embL
/-- The conversation's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The cells -/

/-- The six arrays of transfer semaphores: the queries' send and receive, the weighted sums', the row sums'. -/
abbrev arr : Fin 6 → DmaSems sig S8 := fun a => match a with
  | 0 => cc0_scratch10 | 1 => cc0_scratch11 | 2 => cc0_scratch12 | 3 => cc0_scratch13 | 4 => cc0_scratch14 | 5 => cc0_scratch15

/-- A cell of a device: the barrier, or entry `t` of array `a`. -/
abbrev Key : Type := Option (Fin 6 × Fin 8)
def csem : Key → SemLoc sig := fun k => match k with
  | none => .reg barS
  | some (a, t) => .dma (sem8 (arr a) t)
abbrev kcell (c : Dev nD) (k : Key) : GSem nD τ sig := ((c : Thread nD τ), csem k)

/-- Which cell a semaphore is. -/
def dec : SemLoc sig → Option Key := fun s => match s with
  | .reg _ => some none
  | .dma q => if q.val < 4 then none else if q.val < 52 then some (some (Fin.ofNat 6 ((q.val - 4) / 8), Fin.ofNat 8 ((q.val - 4) % 8))) else none

theorem dec_csem : ∀ k : Key, dec (csem k) = some k := by decide +kernel

theorem csem_injective : Function.Injective csem := fun a b h => by
  have := congrArg dec h; rw [dec_csem, dec_csem] at this; exact Option.some.inj this
theorem kcell_eq_iff {c c' : Dev nD} {k k' : Key} : kcell c k = kcell c' k' ↔ c = c' ∧ k = k' :=
  ⟨fun h => ⟨congrArg (fun g : GSem nD τ sig => g.1.1) h, csem_injective (congrArg Prod.snd h)⟩, fun ⟨h, h'⟩ => by rw [h, h']⟩

/-- The offsets between two devices that differ. -/
abbrev T7 : Finset (Fin 8) := Finset.univ.erase 0

/-! ## Amounts -/

def NQ : ℕ := (slQ qbuf 0).view.dmaCredit
def NL : ℕ := (slL lsend 0).view.dmaCredit
theorem NQ_pos : 0 < NQ := View.dmaCredit_pos _ (by decide)
theorem NL_pos : 0 < NL := View.dmaCredit_pos _ (by decide)
theorem credit_q (t : Fin 8) : (slQ qbuf t).view.dmaCredit = NQ := rfl
theorem credit_os (t : Fin 8) : (slQ osend t).view.dmaCredit = NQ := rfl
theorem credit_or (t : Fin 8) : (slQ orecv t).view.dmaCredit = NQ := rfl
theorem credit_ls (t : Fin 8) : (slL lsend t).view.dmaCredit = NL := rfl
theorem credit_lr (t : Fin 8) : (slL lrecv t).view.dmaCredit = NL := rfl

def amtK : Key → ℕ := fun k => match k with
  | none => 1
  | some (a, _) => if a.val < 4 then NQ else NL
theorem amtK_pos (k : Key) : 0 < amtK k := by
  rcases k with _ | ⟨a, t⟩
  · exact Nat.one_pos
  · show 0 < if a.val < 4 then NQ else NL
    split; exacts [NQ_pos, NL_pos]

/-! ## Pieces of buffers -/

/-- The elements of the rectangle `r` of buffer `b` on device `c`, at share `q`, holding `f`. -/
def slP (c : Dev nD) (b : Ref sig .tc) (r : Rect b.ty.shape) (q : PosShare TreeShare) (f : b.ty.Contents (Elt F)) : sProp 𝕄 :=
  ((c : Thread nD τ).loc b) ↦[r.set]{q} f

omit [FloatOps F] in
instance slP_storable (c : Dev nD) (b : Ref sig .tc) (r : Rect b.ty.shape) (q) (f) : BI.Storable (upEmb : UEmb _ 𝕄) (slP (F := F) c b r q f) := by
  unfold slP; infer_instance

/-- The slots device `c` opens to another at its barrier: where the other's queries and sums land. -/
def window (c : Dev nD) (s : Fin 8) : sProp 𝕄 :=
  iprop((∃ f, slP (F := F) c cc0_scratch0 (rQ s) fullShare f) ∗ (∃ f, slP (F := F) c cc0_scratch6 (rQ s) fullShare f)
    ∗ (∃ f, slP (F := F) c cc0_scratch8 (rL s) fullShare f))

/-- The share of the queries lent to transfer `t`. -/
abbrev qTok (t : Fin 8) : PosShare TreeShare := shareTok fullShare 8 t

variable (I : Inp F)

/-- What is handed over with duty `d` of cell `k` of device `c`. -/
def payK (c : Dev nD) : Key → Fin 8 → sProp 𝕄 := fun k d => match k with
  | none => window (dn c d) (-d)
  | some (0, t) => slP c cc0_scratch0 (rQ 0) (qTok t) (qC I c)
  | some (1, t) => slP c cc0_scratch0 (rQ t) fullShare (qC I c)
  | some (2, t) => slP c cc0_scratch5 (rQ t) fullShare (osC I c)
  | some (3, t) => slP c cc0_scratch6 (rQ t) fullShare (orC I c)
  | some (4, t) => slP c cc0_scratch7 (rL t) fullShare (lsC I c)
  | some (5, t) => slP c cc0_scratch8 (rL t) fullShare (lrC I c)

instance payK_storable (c : Dev nD) (k : Key) (d : Fin 8) : BI.Storable (upEmb : UEmb _ 𝕄) (payK I c k d) := by
  unfold payK window
  split <;> infer_instance

def dutK : Key → Finset (Fin 8) := fun k => match k with
  | none => T7
  | some (_, t) => if t = 0 then ∅ else {0}

/-- One round: a barrier cell has a unit from each other device; entry `t ≠ 0` of an array one transfer. -/
def sched : Rounds.Schedule (GSem nD τ sig) (Fin 8) 𝕄 where
  duties g r := if r = 0 ∧ g.1.2 = .tc then (dec g.2).elim ∅ dutK else ∅
  unitless _ := False
  amount g _ _ := (dec g.2).elim 1 amtK
  payload g _ d := (dec g.2).elim iprop(emp) fun k => payK I g.1.1 k d
  amount_pos g _ _ _ := by
    cases h : dec g.2
    · exact Nat.one_pos
    · exact amtK_pos _

instance sched_storable (g : GSem nD τ sig) (r : ℕ) (d : Fin 8) : BI.Storable (upEmb : UEmb _ 𝕄) ((sched I).payload g r d) := by
  show BI.Storable upEmb ((dec g.2).elim iprop(emp) fun k => payK I g.1.1 k d)
  cases dec g.2 <;> (dsimp only [Option.elim]; infer_instance)

theorem duties_at (c : Dev nD) (k : Key) : (sched I).duties (kcell c k) 0 = dutK k := by
  dsimp only [sched]; rw [if_pos ⟨rfl, rfl⟩, dec_csem]; rfl
theorem duties_later (g : GSem nD τ sig) : ∀ r, 1 ≤ r → (sched I).duties g r = ∅ := fun r hr => by
  dsimp only [sched]; rw [if_neg fun h => by omega]
theorem amount_at (c : Dev nD) (k : Key) (d : Fin 8) : (sched I).amount (kcell c k) 0 d = amtK k := by
  dsimp only [sched]; rw [dec_csem]; rfl
theorem payload_at (c : Dev nD) (k : Key) (d : Fin 8) : (sched I).payload (kcell c k) 0 d = payK I c k d := by
  dsimp only [sched]; rw [dec_csem]; rfl
theorem expect_bar (c : Dev nD) : (sched I).expect (kcell c none) 0 = 7 := by
  unfold Schedule.expect Schedule.amountOf
  rw [duties_at, Finset.sum_congr rfl fun d _ => amount_at I c none d]; rfl
theorem expect_xfer (c : Dev nD) (a : Fin 6) (t : Fin 8) (ht : t ≠ 0) : (sched I).expect (kcell c (some (a, t))) 0 = amtK (some (a, t)) := by
  unfold Schedule.expect Schedule.amountOf
  rw [duties_at, show dutK (some (a, t)) = {0} from if_neg ht, Finset.sum_singleton, amount_at]
theorem rest_bar (c : Dev nD) : bigSep ((sched I).duties (kcell c none) 0 \ ∅) (fun d => (sched I).payload (kcell c none) 0 d)
    = bigSep T7 fun d => window (F := F) (dn c d) (-d) := by
  rw [Finset.sdiff_empty, duties_at]
  exact bigSep_congr fun d _ => payload_at I c none d
theorem rest_xfer (c : Dev nD) (a : Fin 6) (t : Fin 8) (ht : t ≠ 0) :
    bigSep ((sched I).duties (kcell c (some (a, t))) 0 \ ∅) (fun d => (sched I).payload (kcell c (some (a, t))) 0 d) = payK I c (some (a, t)) 0 := by
  rw [Finset.sdiff_empty, duties_at, show dutK (some (a, t)) = {0} from if_neg ht, bigSep_singleton, payload_at]

/-! ## Who pays -/

/-- A duty paid by a device: `(a, t)` for the transfer on entry `t` of array `a`, `(6, t)` for the barrier unit at offset `t`. -/
abbrev Tok : Type := Fin 7 × Fin 8
/-- The cell it is paid on, -/
def ckey : Tok → Key := fun x => if h : x.1.val < 6 then some (⟨x.1.val, h⟩, x.2) else none
/-- which of the cell's duties it is, -/
def dut : Tok → Fin 8 := fun x => if x.1 = 6 then x.2 else 0
/-- and how many devices up the cell is. -/
def dir : Tok → Fin 8 := fun x => if x.1 = 0 ∨ x.1 = 2 ∨ x.1 = 4 then 0 else x.2
abbrev payCell (c : Dev nD) (x : Tok) : GSem nD τ sig := kcell (up c (dir x)) (ckey x)

/-! ## What a device owes -/

/-- When a device pays: the barrier units first, then the queries, then the sums, block by block. -/
def time : Tok → ℕ := fun x =>
  if x.1 = 6 then x.2.val else if x.1 = 1 then 8 + x.2.val else if x.1 = 3 then 16 + 2 * (8 - x.2.val) else if x.1 = 5 then 17 + 2 * (8 - x.2.val) else 0
/-- What it pays at time `n` or later. -/
def left (n : ℕ) : Finset Tok := Finset.univ.filter fun x => x.2 ≠ 0 ∧ x.1 ≠ 0 ∧ x.1 ≠ 2 ∧ x.1 ≠ 4 ∧ n ≤ time x
def owed (c : Dev nD) (S : Finset Tok) : CellTallies nD τ sig Unit := ∑ x ∈ S, tallyAt (payCell c x) () (amtK (ckey x))

theorem owed_peel (c : Dev nD) {S S' : Finset Tok} {x : Tok} (h : S = insert x S') (hx : x ∉ S') :
    owed c S = owed c S' + tallyAt (payCell c x) () (amtK (ckey x)) := by
  unfold owed; rw [h, Finset.sum_insert hx, add_comm]
theorem owed_empty (c : Dev nD) : owed c ∅ = 0 := Finset.sum_empty

theorem owed_pos {c : Dev nD} {S : Finset Tok} {g : GSem nD τ sig} {u : Unit} (h : 0 < owed c S g u) : ∃ x ∈ S, g = payCell c x := by
  by_contra hn
  rw [not_exists] at hn
  have : owed c S g u = 0 := by
    unfold owed
    rw [Finset.sum_apply, Finsupp.finset_sum_apply]
    refine Finset.sum_eq_zero fun x hx => ?_
    rw [tallyAt_apply, if_neg fun h' => hn x ⟨hx, h'.1⟩]
  omega

/-! ## Levels -/

def lvK : Key → ℕ := fun k => match k with
  | none => 1
  | some (a, _) => if a = 1 then 2 else if a = 3 ∨ a = 5 then 3 else 0
def lv (g : GSem nD τ sig) (_ : Unit) : ℕ := (dec g.2).elim 0 lvK
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Key) : lv (kcell c k) () = lvK k := by unfold lv; rw [dec_csem]; rfl

omit [FloatOps F] in
/-- A wait is allowed while everything owed is at a higher level. -/
theorem may_wait (c : Dev nD) (sm : SemLoc sig) (n : ℕ) (hn : (dec sm).elim 0 lvK = n) (S : Finset Tok) (hS : ∀ x ∈ S, n < lvK (ckey x)) :
    (levAts L lv : sProp 𝕄) ⊢ MayWait (c : Thread nD τ) sm () (owed c S) :=
  MayOwe.of_cut (L := L) (lev := lv) n (fun p hp => by rw [Finset.mem_singleton.mp hp, L_tc]; exact Finset.mem_singleton_self _)
    (fun g u hg => by obtain ⟨x, _, rfl⟩ := owed_pos hg; rw [L_tc]; exact Finset.mem_singleton_self _)
    (fun p hp => by rw [Finset.mem_singleton.mp hp]; exact hn.le)
    (fun g u hg => by obtain ⟨x, hx, rfl⟩ := owed_pos hg; rw [lv_at]; exact hS x hx)

end Cert.KernelIdeal.Pf
-- ==== Proof.KernelIdeal.Wp.lean ====
/- The rules of the kernel's operations on the conversation's state: repetition, the waits, the
   transfers to other devices and the barrier. -/
module

public import proofs.«01_k».proof.Proof.KernelIdeal.Sched

@[expose] public section

set_option synthInstance.maxSize 4096

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop Flight)

variable {F : FTy → Type} [FloatOps F]

local notation "𝕄" => MT nD τ sig Unit (Elt F) ℕ UU ℕ

abbrev 𝒱₀ : Variants := Variants.none

/-- The weakest precondition of a program of device `c`. -/
abbrev WP (c : Dev nD) {α : Type} (p : PB F α) (Q : α → sProp 𝕄) : sProp 𝕄 :=
  wp frame (wpE (defs₀ (F := F)) 𝒱₀ (c : Thread nD τ) none) Set.univ p Q

/-! ## Sequences -/

theorem wp_seq {c : Dev nD} {α β : Type} {p : PB F α} {k : α → PB F β} {P : sProp 𝕄} {M : α → sProp 𝕄} {Q : β → sProp 𝕄}
    (h : P ⊢ WP c p M) (h' : ∀ a, M a ⊢ WP c (k a) Q) : P ⊢ WP c (p >>= k) Q := by
  unfold WP; rw [wp_bind]
  exact h.trans (wp_mono _ _ _ h')

theorem wp_frame' {c : Dev nD} {α : Type} {p : PB F α} {P R : sProp 𝕄} {Q : α → sProp 𝕄} (h : P ⊢ WP c p Q) :
    iprop(P ∗ R) ⊢ WP c p (fun a => iprop(Q a ∗ R)) :=
  (sep_mono_left h).trans (wp_frame_r _ _ _)

/-- One step of a repetition: its own resource `A` becomes `B`, the common state `J` becomes `J'`. -/
theorem wp_step {c : Dev nD} {p q : PB F PUnit} {A B R S J J' J'' : sProp 𝕄}
    (h : iprop(A ∗ J) ⊢ WP c p fun _ => iprop(B ∗ J')) (h' : iprop(R ∗ J') ⊢ WP c q fun _ => iprop(S ∗ J'')) :
    iprop((A ∗ R) ∗ J) ⊢ WP c (p >>= fun _ => q) fun _ => iprop((B ∗ S) ∗ J'') := by
  refine wp_seq (M := fun _ => iprop((B ∗ J') ∗ R)) ?_ fun _ => ?_
  · refine BIBase.Entails.trans ?_ (wp_frame' h)
    iintro ⟨⟨HA, HR⟩, HJ⟩
    isplitl [HA HJ]
    · isplitl [HA] <;> iassumption
    iexact HR
  · refine BIBase.Entails.trans ?_ ((wp_frame' (R := B) h').trans (wp_mono _ _ _ fun _ => ?_))
    · iintro ⟨⟨HB, HJ⟩, HR⟩
      isplitr [HB]
      · isplitl [HR] <;> iassumption
      iexact HB
    · iintro ⟨⟨HS, HJ⟩, HB⟩
      isplitr [HJ]
      · isplitl [HB] <;> iassumption
      iexact HJ

omit [FloatOps F] in
theorem bigSep_T7 (Φ : Fin 8 → sProp 𝕄) : bigSep T7 Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ
omit [FloatOps F] in
theorem bigSep_8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_slot0 (Φ : Fin 8 → sProp 𝕄) : bigSep Finset.univ Φ = iprop(Φ 0 ∗ bigSep T7 Φ) := bigSep_univ_at Φ 0
omit [FloatOps F] in
theorem bigSep_T7_neg (Φ : Fin 8 → sProp 𝕄) : bigSep T7 Φ = bigSep T7 fun t => Φ (-t) := by
  have h : (T7.map (Equiv.mk (fun t : Fin 8 => -t) (fun t => -t) (by decide) (by decide)).toEmbedding) = T7 := by decide
  conv_lhs => rw [← h, bigSep_map]
  rfl

theorem wp_seq7 {c : Dev nD} {f : Fin 8 → PB F PUnit} (A B : Fin 8 → sProp 𝕄) (J : ℕ → sProp 𝕄)
    (h : ∀ t : Fin 8, t ≠ 0 → iprop(A t ∗ J t.val) ⊢ WP c (f t) fun _ => iprop(B t ∗ J (t.val + 1))) :
    iprop(bigSep T7 A ∗ J 1) ⊢ WP c (seq7 f) fun _ => iprop(bigSep T7 B ∗ J 8) := by
  rw [bigSep_T7, bigSep_T7]
  exact wp_step (h 1 (by decide)) (wp_step (h 2 (by decide)) (wp_step (h 3 (by decide)) (wp_step (h 4 (by decide))
    (wp_step (h 5 (by decide)) (wp_step (h 6 (by decide)) (h 7 (by decide)))))))

theorem wp_seq8 {c : Dev nD} {f : Fin 8 → PB F PUnit} (A B : Fin 8 → sProp 𝕄) (J : ℕ → sProp 𝕄)
    (h : ∀ t : Fin 8, iprop(A t ∗ J t.val) ⊢ WP c (f t) fun _ => iprop(B t ∗ J (t.val + 1))) :
    iprop(bigSep Finset.univ A ∗ J 0) ⊢ WP c (seq8 f) fun _ => iprop(bigSep Finset.univ B ∗ J 8) := by
  rw [bigSep_8, bigSep_8]
  exact wp_step (h 0) (wp_step (h 1) (wp_step (h 2) (wp_step (h 3) (wp_step (h 4) (wp_step (h 5) (wp_step (h 6) (h 7)))))))

/-! ## The records shared by all devices -/

variable (I : Inp F) (K : Dev nD × Key → ℕ)

/-- Every cell's invariant, every cell's first round reached, and the levels. -/
def Rec : sProp 𝕄 :=
  iprop((bigSep Finset.univ fun x : Dev nD × Key => cellInv ER (sched I) (K x) (kcell x.1 x.2))
    ∗ (bigSep Finset.univ fun x : Dev nD × Key => reached ER (kcell x.1 x.2) 0) ∗ levAts L lv)

instance Rec_persistent : BI.Persistent (Rec I K) := by unfold Rec; infer_instance

theorem Rec_inv (c : Dev nD) (k : Key) : Rec I K ⊢ cellInv ER (sched I) (K (c, k)) (kcell c k) := by
  unfold Rec
  iintro ⟨H, -, -⟩
  iapply (show (bigSep Finset.univ fun x : Dev nD × Key => cellInv ER (sched I) (K x) (kcell x.1 x.2)) ⊢ cellInv ER (sched I) (K (c, k)) (kcell c k)
    from bigSep_elim (Finset.mem_univ (c, k))) $$ H
theorem Rec_reached (c : Dev nD) (k : Key) : Rec I K ⊢ reached ER (kcell c k) 0 := by
  unfold Rec
  iintro ⟨-, H, -⟩
  iapply (show (bigSep Finset.univ fun x : Dev nD × Key => (reached ER (kcell x.1 x.2) 0 : sProp 𝕄)) ⊢ reached ER (kcell c k) 0
    from bigSep_elim (Finset.mem_univ (c, k))) $$ H
theorem Rec_lev : Rec I K ⊢ levAts L lv := by
  unfold Rec
  iintro ⟨-, -, H⟩
  iexact H

/-- Device `c` owes what `S` says. -/
def ow (c : Dev nD) (S : Finset Tok) : sProp 𝕄 := iprop(∃ W, owes (c : Thread nD τ) (owed c S) W)
/-- Nothing of cell `k` has been consumed. -/
abbrev pos0 (c : Dev nD) (k : Key) : sProp 𝕄 := atPos ER (kcell c k) 0 ∅ 0
/-- A round's units, due at the owner of cell `k`. -/
abbrev due (c : Dev nD) (k : Key) : sProp 𝕄 := cred (tallyAt (kcell c k) () (amtK k))
/-- The right to pay the duty `x`. -/
abbrev pay (c : Dev nD) (x : Tok) : sProp 𝕄 := dutyTok ER (payCell c x) 0 (dut x)

/-- A cell whose round is over, or that has none, closes. -/
theorem close_cell (c : Dev nD) (k : Key) (R : ℕ) (hR : 1 ≤ R ∨ dutK k = ∅) :
    iprop(Rec I K ∗ atPos ER (kcell c k) R ∅ 0) ⊢ |={Set.univ}=> semVal (kcell c k) 0 := by
  have hd : ∀ r, R ≤ r → (sched I).duties (kcell c k) r = ∅ := fun r hr => by
    rcases hR with h | h
    · exact duties_later I _ r (h.trans hr)
    · rcases Nat.eq_zero_or_pos r with rfl | h'
      · rw [duties_at, h]
      · exact duties_later I _ r h'
  iintro ⟨#HR, Hat⟩
  iapply (Rounds.cell_close ER (sched I) (Set.mem_univ (K (c, k))) (fun h => h) (R := R) hd) $$ [Hat]
  isplitr
  · iapply (Rec_inv I K c k); iexact HR
  iexact Hat

/-- The wait for the transfer on entry `t` of array `a`: what it brought, and the cell closed. -/
theorem wp_waitX (c : Dev nD) (a : Fin 6) (t : Fin 8) (ht : t ≠ 0) (S : Finset Tok) (hS : ∀ x ∈ S, lvK (some (a, t)) < lvK (ckey x))
    {sp sp' : Space} {s s' : Shape} {e e' : EltTy} {src : Memref sig .tc sp' s' e'} {dst : Memref sig .tc sp s e}
    {hsrc : src.view.WordExact} {hdst : dst.view.WordExact} (hN : dst.view.dmaCredit = amtK (some (a, t))) :
    iprop(Rec I K ∗ due c (some (a, t)) ∗ ow c S ∗ pos0 c (some (a, t)))
      ⊢ WP c (Prog.lift (.waitDma2 (sem8 (arr a) t) src dst hsrc hdst))
          fun _ => iprop(payK I c (some (a, t)) 0 ∗ semVal (kcell c (some (a, t))) 0 ∗ ow c S) := by
  unfold ow Prog.lift
  iintro ⟨#HR, Hc, ⟨%W, HO⟩, Hat⟩
  iapply (Rounds.wp_wait_rest_token 𝒱₀ ER (sched I) (c : Thread nD τ) none (κ := K (c, some (a, t)))
      (wpE_waitDma2_eq 𝒱₀ (c : Thread nD τ) none Set.univ) (Set.mem_univ _) () (O := owed c S) (W := W) (R := 0) (m := 0) (T := ∅)
      (by rw [Nat.zero_add, hN]; exact (expect_xfer I c a t ht).symm)) $$ [Hc HO Hat]
  · isplitr
    · iapply (Rec_inv I K c (some (a, t))); iexact HR
    isplitl [Hc]
    · rw [hN]; iexact Hc
    isplitl [HO]; · iexact HO
    isplitr
    · iapply (may_wait c (csem (some (a, t))) (lvK (some (a, t))) (by rw [dec_csem]; rfl) S hS)
      iapply (Rec_lev I K); iexact HR
    iexact Hat
  iintro ⟨HO, Hat, -, Hp⟩
  ihave Hp' := (show (bigSep ((sched I).duties ((c : Thread nD τ), SemLoc.dma (sem8 (arr a) t)) 0 \ ∅)
      fun d => (sched I).payload ((c : Thread nD τ), SemLoc.dma (sem8 (arr a) t)) 0 d) ⊢ payK I c (some (a, t)) 0 from Entails.of_eq (rest_xfer I c a t ht)) $$ Hp
  imod (close_cell I K c (some (a, t)) (0 + 1) (.inl le_rfl)) $$ [Hat] with Hz
  · isplitr; · iexact HR
    iexact Hat
  rw [wp_ret]; imodintro
  isplitl [Hp']; · iexact Hp'
  isplitl [Hz]; · iexact Hz
  iexists _; iexact HO

/-- A transfer to the device `n`, paying its duty `x`. -/
theorem wp_sendX (c n : Dev nD) (aS aR : Fin 6) (t : Fin 8) (ht : t ≠ 0) (x : Tok) (hck : ckey x = some (aR, t)) (hdut : dut x = 0) (hn : up c (dir x) = n)
    (xS : Tok) (hckS : ckey xS = some (aS, t)) (hdutS : dut xS = 0) (hnS : up c (dir xS) = c)
    {S S' : Finset Tok} (hS : S = insert x S') (hx : x ∉ S')
    {sp sp' : Space} {s : Shape} {e : EltTy} {src : Memref sig .tc sp s e} {dst : Memref sig (Dev.tc n : Thread nD τ).2.kind sp' s e}
    {hsc : dst.view.ref.isScScratch = false} {hsrc : src.view.WordExact} {hdst : dst.view.WordExact}
    {hsem : DmaTarget.Typed sp (.dma (sem8 (arr aR) t)) (.remote (Dev.tc n : Thread nD τ) dst (.dma (sem8 (arr aS) t)) hsc)}
    (hN : dst.view.dmaCredit = amtK (some (aR, t))) (hamt : amtK (some (aS, t)) = amtK (some (aR, t)))
    {q : PosShare TreeShare} {fs : Buf (Elt F) (src.view.loc (c : Thread nD τ))}
    (hpay₁ : (src.view.loc (c : Thread nD τ) ↦[src.view.set]{q} fs) ⊢ payK I c (some (aS, t)) 0)
    (hpay₂ : ∀ fd, (dst.view.loc (n : Thread nD τ) ↦[dst.view.set]{fullShare} (dst.view.write (Elt F) fd (src.view.read (Elt F) fs) Finset.univ))
      ⊢ payK I n (some (aR, t)) 0) :
    iprop(Rec I K ∗ (src.view.loc (c : Thread nD τ) ↦[src.view.set]{q} fs) ∗ (∃ fd, dst.view.loc (n : Thread nD τ) ↦[dst.view.set]{fullShare} fd)
        ∗ pay c xS ∗ pay c x ∗ ow c S)
      ⊢ WP c (Prog.lift (.enqueueDma src (.remote (Dev.tc n : Thread nD τ) dst (.dma (sem8 (arr aS) t)) hsc) (.dma (sem8 (arr aR) t)) hsrc hdst hsem))
          fun _ => iprop(due c (some (aS, t)) ∗ ow c S') := by
  have hd0 : ∀ a : Fin 6, (0 : Fin 8) ∈ dutK (some (a, t)) := fun a => by
    show (0 : Fin 8) ∈ if t = 0 then (∅ : Finset (Fin 8)) else {0}
    rw [if_neg ht]; exact Finset.mem_singleton_self _
  have e1 : pay (F := F) c xS = dutyTok ER (kcell c (some (aS, t))) 0 0 := by unfold pay payCell; rw [hckS, hdutS, hnS]
  have e2 : pay (F := F) c x = dutyTok ER (kcell n (some (aR, t))) 0 0 := by unfold pay payCell; rw [hck, hdut, hn]
  rw [e1, e2]
  unfold ow Prog.lift
  iintro ⟨#HR, Hs, ⟨%fd, Hd⟩, HtS, HtR, ⟨%W, HO⟩⟩
  iapply (Rounds.wp_send_pointsTo 𝒱₀ ER (sched I) (c : Thread nD τ) none (κ₁ := K (c, some (aS, t))) (κ₂ := K (n, some (aR, t)))
    (r₁ := 0) (r₂ := 0) (d₁ := 0) (d₂ := 0) (fd := fd)
    ((Finset.ext_iff.mp (duties_at I c (some (aS, t))) 0).mpr (hd0 aS)) ((Finset.ext_iff.mp (duties_at I n (some (aR, t))) 0).mpr (hd0 aR))
    () () (amtK (some (aR, t))) hN ((amount_at I c (some (aS, t)) 0).trans hamt) (amount_at I n (some (aR, t)) 0) (O₀ := owed c S) (owed c S')
    (by rw [owed_peel c hS hx]; unfold payCell; rw [hck, hn]) (W := W)
    (hpay₁.trans (Entails.of_eq (payload_at I c (some (aS, t)) 0).symm)) ((hpay₂ fd).trans (Entails.of_eq (payload_at I n (some (aR, t)) 0).symm))) $$ [Hs Hd HO HtS HtR]
  · isplitr
    · iapply (Rec_inv I K c (some (aS, t))); iexact HR
    isplitr
    · iapply (Rec_inv I K n (some (aR, t))); iexact HR
    isplitl [Hs]; · iexact Hs
    isplitl [Hd]; · iexact Hd
    isplitl [HO]; · iexact HO
    isplitl [HtS]; · iexact HtS
    isplitr
    · iapply (Rec_reached I K c (some (aS, t))); iexact HR
    isplitl [HtR]; · iexact HtR
    iapply (Rec_reached I K n (some (aR, t))); iexact HR
  iintro ⟨Hc, HO⟩
  rw [wp_ret]; imodintro
  isplitl [Hc]
  · unfold due; rw [hamt]; iexact Hc
  iexists W; iexact HO

/-! ## The barrier -/

theorem left_bar : ∀ t : Fin 8, t ≠ 0 → left t.val = insert ((6, t) : Tok) (left (t.val + 1)) ∧ ((6, t) : Tok) ∉ left (t.val + 1) := by decide +kernel

theorem dir_bar : ∀ t : Fin 8, dir (6, t) = t := by decide
theorem ckey_bar : ∀ t : Fin 8, ckey (6, t) = none := by decide
theorem dut_bar : ∀ t : Fin 8, dut (6, t) = t := by decide
theorem owed_bar (c : Dev nD) (t : Fin 8) (ht : t ≠ 0) :
    owed c (left t.val) = owed c (left (t.val + 1)) + tallyAt (kcell (up c t) none) () 1 := by
  rw [owed_peel c (left_bar t ht).1 (left_bar t ht).2]; unfold payCell; rw [dir_bar, ckey_bar]; rfl

/-- A unit to the barrier of the device at offset `t`, opening to it the slots it may write. -/
theorem wp_sig (c : Dev nD) (t : Fin 8) (ht : t ≠ 0) :
    iprop(Rec I K ∗ window (F := F) c (-t) ∗ pay c (6, t) ∗ ow c (left t.val)) ⊢ WP c (sigOp c t) fun _ => ow c (left (t.val + 1)) := by
  unfold sigOp semSignalWord
  rw [sigDev_eq c t ht]
  have e2 : pay (F := F) c (6, t) = dutyTok ER (kcell (up c t) none) 0 t := by unfold pay payCell; rw [dir_bar, ckey_bar, dut_bar]
  rw [e2]
  unfold ow
  iintro ⟨#HR, Hw, Ht, ⟨%W, HO⟩⟩
  iapply (Rounds.wp_signal 𝒱₀ ER (sched I) (c : Thread nD τ) none (dst := (up c t : Thread nD τ)) (κ := K (up c t, none))
      (d := t) ((Finset.ext_iff.mp (duties_at I (up c t) none) t).mpr (Finset.mem_erase.mpr ⟨ht, Finset.mem_univ _⟩))
      ((amount_at I (up c t) none t).trans (by decide)) () (owed c (left (t.val + 1)))
      (owed_bar c t ht)) $$ [HO Ht Hw]
  · isplitr
    · iapply (Rec_inv I K (up c t) none); iexact HR
    isplitl [HO]; · iexact HO
    isplitl [Ht]; · iexact Ht
    isplitl [Hw]
    · iapply (show window c (-t) ⊢ (sched I).payload (((up c t : Dev nD) : Thread nD τ), SemLoc.reg barS) 0 t from
        Entails.of_eq (((payload_at I (up c t) none t).trans (congrArg (fun d => window (F := F) d (-t)) (dn_up c t))).symm)); iexact Hw
    iapply (Rec_reached I K (up c t) none); iexact HR
  iintro HO
  rw [wp_ret]; imodintro
  iexists W; iexact HO

theorem lv_bar : ∀ x ∈ left 8, lvK none < lvK (ckey x) := by decide +kernel

/-- The wait for the seven others' units: the slots they open. -/
theorem wp_bar (c : Dev nD) :
    iprop(Rec I K ∗ cred (tallyAt (kcell c none) () 7) ∗ ow c (left 8) ∗ pos0 c none)
      ⊢ WP c (semWaitWord barS 7#32) fun _ => iprop((bigSep T7 fun t => window (F := F) (up c t) t) ∗ semVal (kcell c none) 0 ∗ ow c (left 8)) := by
  unfold ow semWaitWord
  iintro ⟨#HR, Hc, ⟨%W, HO⟩, Hat⟩
  iapply (Rounds.wp_wait_rest_token 𝒱₀ ER (sched I) (c : Thread nD τ) none (κ := K (c, none))
      (wpE_semWait_eq 𝒱₀ (c : Thread nD τ) none Set.univ) (Set.mem_univ _) () (O := owed c (left 8)) (W := W) (R := 0) (m := 0) (T := ∅)
      (by rw [Nat.zero_add]; exact (show _ = 7 by decide).trans (expect_bar I c).symm)) $$ [Hc HO Hat]
  · isplitr
    · iapply (Rec_inv I K c none); iexact HR
    isplitl [Hc]; · iexact Hc
    isplitl [HO]; · iexact HO
    isplitr
    · iapply (may_wait c (csem none) (lvK none) (by rw [dec_csem]; rfl) (left 8) lv_bar)
      iapply (Rec_lev I K); iexact HR
    iexact Hat
  iintro ⟨HO, Hat, -, Hp⟩
  ihave Hp' := (show (bigSep ((sched I).duties ((c : Thread nD τ), SemLoc.reg barS) 0 \ ∅)
      fun d => (sched I).payload ((c : Thread nD τ), SemLoc.reg barS) 0 d) ⊢ (bigSep T7 fun t => window (F := F) (up c t) t) from
    Entails.of_eq ((rest_bar I c).trans ((bigSep_T7_neg _).trans (bigSep_congr fun t _ => by rw [dn_neg, show -(-t) = t by revert t; decide])))) $$ Hp
  imod (close_cell I K c none (0 + 1) (.inl le_rfl)) $$ [Hat] with Hz
  · isplitr; · iexact HR
    iexact Hat
  rw [wp_ret]; imodintro
  isplitl [Hp']; · iexact Hp'
  isplitl [Hz]; · iexact Hz
  iexists _; iexact HO

end Cert.KernelIdeal.Pf
-- ==== Proof.KernelIdeal.Local.lean ====
/- The rules of the kernel's local work: one head against one slot of queries, the local copies of
   keys and values with their conversion, the queries, the sums and the projection. -/
module

public import proofs.«01_k».proof.Proof.KernelIdeal.Wp

@[expose] public section

set_option synthInstance.maxSize 4096

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop Flight)

variable {F : FTy → Type} [FloatOps F]

local notation "𝕄" => MT nD τ sig Unit (Elt F) ℕ UU ℕ

/-! ## A piece of a buffer with what is known of it -/

/-- A piece of buffer `b` whose contents satisfy `P`. -/
def slE (c : Dev nD) (b : Ref sig .tc) (r : Rect b.ty.shape) (P : b.ty.Contents (Elt F) → Prop) : sProp 𝕄 :=
  iprop(∃ g, ⌜P g⌝ ∗ slP c b r fullShare g)

/-- Buffer `b` whole. -/
def whP (c : Dev nD) (b : Ref sig .tc) (q : PosShare TreeShare) (f : b.ty.Contents (Elt F)) : sProp 𝕄 :=
  ((c : Thread nD τ).loc b) ↦{q} f
def whE (c : Dev nD) (b : Ref sig .tc) (P : b.ty.Contents (Elt F) → Prop) : sProp 𝕄 :=
  iprop(∃ g, ⌜P g⌝ ∗ whP c b fullShare g)

/-! ## Storing a head -/

/-- Slot `s` holds the heads below `h` of `f`. -/
def okO (s : Fin 8) (n : ℕ) (f : Fin 8 → FVec F S1x256x128 .bf16) (g : S8x256x1024.Idx → F .bf16) : Prop :=
  ∀ i, (i 0 : Fin 8) = s → (i 2).val < 128 * n → g i = oT f i
def okL (s : Fin 8) (n : ℕ) (f : Fin 8 → FVec F S1x256x1 .f32) (g : S8x256x8.Idx → F .f32) : Prop :=
  ∀ i, (i 0 : Fin 8) = s → (i 2).val < n → g i = lT f i

theorem okO_zero (s : Fin 8) (f : Fin 8 → FVec F S1x256x128 .bf16) (g : S8x256x1024.Idx → F .bf16) : okO s 0 f g :=
  fun i _ h => absurd h (by omega)
theorem okL_zero (s : Fin 8) (f : Fin 8 → FVec F S1x256x1 .f32) (g : S8x256x8.Idx → F .f32) : okL s 0 f g :=
  fun i _ h => absurd h (by omega)

theorem okO_succ (s h : Fin 8) (f : Fin 8 → FVec F S1x256x128 .bf16) (g g' : S8x256x1024.Idx → F .bf16) (hg : okO s h.val f g)
    (hin : ∀ x, g' ((rQh s h).emb x) = f h x) (hout : ∀ i, i ∉ (rQh s h).set → g' i = g i) : okO s (h.val + 1) f g' := fun i hi hn => by
  by_cases hm : i ∈ (rQh s h).set
  · refine (congrArg g' (of_mem_rQh s h i hm)).trans ((hin _).trans ?_)
    unfold oT; rw [hd_of_mem_rQh s h i hm]
  · rw [hout i hm]
    refine hg i hi ?_
    by_contra hc
    exact hm ((mem_rQh s h i).mpr ⟨hi, by omega, by omega⟩)

theorem okL_succ (s h : Fin 8) (f : Fin 8 → FVec F S1x256x1 .f32) (g g' : S8x256x8.Idx → F .f32) (hg : okL s h.val f g)
    (hin : ∀ x, g' ((rLh s h).emb x) = f h x) (hout : ∀ i, i ∉ (rLh s h).set → g' i = g i) : okL s (h.val + 1) f g' := fun i hi hn => by
  by_cases hm : i ∈ (rLh s h).set
  · refine (congrArg g' (of_mem_rLh s h i hm)).trans ((hin _).trans ?_)
    unfold lT; rw [((mem_rLh s h i).mp hm).2]
  · rw [hout i hm]
    refine hg i hi ?_
    by_contra hc
    exact hm ((mem_rLh s h i).mpr ⟨hi, Fin.ext (by omega)⟩)

/-- Head `h` of the weighted sums into slot `s`. -/
def putO (oM : Memref sig .tc .vmem S8x256x1024 .bf16) (hoM : oM.IsWhole) (s h : Fin 8) (w : FVec F S1x256x128 .bf16) : PB F PUnit := do
  let _ ← Prog.lift (.load oM (rQh s h).toLoadRect (View.loadsAt_vmem h_S1x256x128))
  Prog.lift (.store oM (rQh s h) w Finset.univ (View.stores_vmem h_S1x256x128 (hoM.storeExact_slice rfl _ (packedQh s h)) (fun _ => rfl)) (.inl rfl))
/-- Head `h` of the row sums into slot `s`. -/
def putL (lM : Memref sig .tc .vmem S8x256x8 .f32) (s h : Fin 8) (w : FVec F S1x256x1 .f32) : PB F PUnit := do
  let _ ← Prog.lift (.load lM (rLh s h).toLoadRect (View.loadsAt_vmem h_S1x256x1))
  Prog.lift (.store lM (rLh s h) w Finset.univ (View.stores_vmem_bits_univ h_S1x256x1 rfl) (.inl rfl))

theorem wp_putO_send (c : Dev nD) (s h : Fin 8) (f : Fin 8 → FVec F S1x256x128 .bf16) :
    slE c cc0_scratch5 (rQ s) (okO s h.val f)
      ⊢ WP c (putO osend (Memref.isWhole_whole _) s h (f h)) fun _ => slE c cc0_scratch5 (rQ s) (okO s (h.val + 1) f) := by
  unfold slE slP putO
  simp only [Prog.lift, Prog.bind_op, Prog.bind_ret]
  iintro ⟨%g, %hg, H⟩
  iapply (wp_load_rect 𝒱₀ (c : Thread nD τ) none Set.univ (m := osend) (r := rQh s h) (S := (rQ s).set) (by rw [set_access1]; exact rQh_sub s h)) $$ H
  iintro H
  iapply (wp_store 𝒱₀ (c : Thread nD τ) none Set.univ (m := osend) (r := rQh s h) (Mk := Finset.univ) (S := (rQ s).set) (by rw [set_access]; exact rQh_sub s h)) $$ H
  iintro H
  rw [wp_ret]; imodintro
  iexists _
  isplitr
  · ipureintro
    exact okO_succ s h f g _ hg (fun x => wr_in (b := cc0_scratch5) (rQh s h) g (f h) x) (fun i hi => wr_out (b := cc0_scratch5) (rQh s h) g (f h) i hi)
  iexact H
theorem wp_putO_recv (c : Dev nD) (s h : Fin 8) (f : Fin 8 → FVec F S1x256x128 .bf16) :
    slE c cc0_scratch6 (rQ s) (okO s h.val f)
      ⊢ WP c (putO orecv (Memref.isWhole_whole _) s h (f h)) fun _ => slE c cc0_scratch6 (rQ s) (okO s (h.val + 1) f) := by
  unfold slE slP putO
  simp only [Prog.lift, Prog.bind_op, Prog.bind_ret]
  iintro ⟨%g, %hg, H⟩
  iapply (wp_load_rect 𝒱₀ (c : Thread nD τ) none Set.univ (m := orecv) (r := rQh s h) (S := (rQ s).set) (by rw [set_access1]; exact rQh_sub s h)) $$ H
  iintro H
  iapply (wp_store 𝒱₀ (c : Thread nD τ) none Set.univ (m := orecv) (r := rQh s h) (Mk := Finset.univ) (S := (rQ s).set) (by rw [set_access]; exact rQh_sub s h)) $$ H
  iintro H
  rw [wp_ret]; imodintro
  iexists _
  isplitr
  · ipureintro
    exact okO_succ s h f g _ hg (fun x => wr_in (b := cc0_scratch6) (rQh s h) g (f h) x) (fun i hi => wr_out (b := cc0_scratch6) (rQh s h) g (f h) i hi)
  iexact H
theorem wp_putL_send (c : Dev nD) (s h : Fin 8) (f : Fin 8 → FVec F S1x256x1 .f32) :
    slE c cc0_scratch7 (rL s) (okL s h.val f)
      ⊢ WP c (putL lsend s h (f h)) fun _ => slE c cc0_scratch7 (rL s) (okL s (h.val + 1) f) := by
  unfold slE slP putL
  simp only [Prog.lift, Prog.bind_op, Prog.bind_ret]
  iintro ⟨%g, %hg, H⟩
  iapply (wp_load_rect 𝒱₀ (c : Thread nD τ) none Set.univ (m := lsend) (r := rLh s h) (S := (rL s).set) (by rw [set_access1]; exact rLh_sub s h)) $$ H
  iintro H
  iapply (wp_store 𝒱₀ (c : Thread nD τ) none Set.univ (m := lsend) (r := rLh s h) (Mk := Finset.univ) (S := (rL s).set) (by rw [set_access]; exact rLh_sub s h)) $$ H
  iintro H
  rw [wp_ret]; imodintro
  iexists _
  isplitr
  · ipureintro
    exact okL_succ s h f g _ hg (fun x => wr_in (b := cc0_scratch7) (rLh s h) g (f h) x) (fun i hi => wr_out (b := cc0_scratch7) (rLh s h) g (f h) i hi)
  iexact H
theorem wp_putL_recv (c : Dev nD) (s h : Fin 8) (f : Fin 8 → FVec F S1x256x1 .f32) :
    slE c cc0_scratch8 (rL s) (okL s h.val f)
      ⊢ WP c (putL lrecv s h (f h)) fun _ => slE c cc0_scratch8 (rL s) (okL s (h.val + 1) f) := by
  unfold slE slP putL
  simp only [Prog.lift, Prog.bind_op, Prog.bind_ret]
  iintro ⟨%g, %hg, H⟩
  iapply (wp_load_rect 𝒱₀ (c : Thread nD τ) none Set.univ (m := lrecv) (r := rLh s h) (S := (rL s).set) (by rw [set_access1]; exact rLh_sub s h)) $$ H
  iintro H
  iapply (wp_store 𝒱₀ (c : Thread nD τ) none Set.univ (m := lrecv) (r := rLh s h) (Mk := Finset.univ) (S := (rL s).set) (by rw [set_access]; exact rLh_sub s h)) $$ H
  iintro H
  rw [wp_ret]; imodintro
  iexists _
  isplitr
  · ipureintro
    exact okL_succ s h f g _ hg (fun x => wr_in (b := cc0_scratch8) (rLh s h) g (f h) x) (fun i hi => wr_out (b := cc0_scratch8) (rLh s h) g (f h) i hi)
  iexact H

/-! ## One head against one slot of queries -/

theorem attend_eq (oM : Memref sig .tc .vmem S8x256x1024 .bf16) (hoM : oM.IsWhole) (lM : Memref sig .tc .vmem S8x256x8 .f32) (j s h : Fin 8) :
    attend (F := F) oM hoM lM j s h
      = .op (.load qbuf (rQh j h).toLoadRect (View.loadsAt_vmem h_S1x256x128)) fun q =>
        .op (.load kbuf (rKV h).toLoadRect (View.loadsAt_vmem h_S1x4096x128)) fun k =>
        putL lM s h (k0_pay6 q k) >>= fun _ =>
        .op (.load vbuf (rKV h).toLoadRect (View.loadsAt_vmem h_S1x4096x128)) fun v =>
        putO oM hoM s h (k0_pay7 q k v) := rfl

theorem mem_whole {b : Ref sig .tc} (r : Rect b.ty.shape) : ((Memref.whole b).access r).set ⊆ Finset.univ := Finset.subset_univ _

variable (I : Inp F)

theorem emb_rKV_zero (h : Fin 8) (x : S1x4096x128.Idx) : (rKV h).emb x 0 = h := by
  obtain ⟨a, b, d, rfl⟩ : ∃ a b d, x = ix3 a b d := ⟨_, _, _, eq_ix3 x⟩
  exact congrArg (fun i : S8x4096x128.Idx => i 0) (emb_rKV h a b d)

/-- The reads of one head and the two stores. -/
theorem wp_attend (c : Dev nD) (j s h : Fin 8) {oM : Memref sig .tc .vmem S8x256x1024 .bf16} {hoM : oM.IsWhole} {lM : Memref sig .tc .vmem S8x256x8 .f32}
    (q : PosShare TreeShare) {Po Po' Pl Pl' : sProp 𝕄} (gk gv : S8x4096x128.Idx → F .bf16)
    (hk : ∀ i, (i 0 : Fin 8) = h → gk i = kC I c i) (hv : ∀ i, (i 0 : Fin 8) = h → gv i = vC I c i)
    (hO : Po ⊢ WP c (putO oM hoM s h (oPart I c (dn c j) h)) fun _ => Po')
    (hL : Pl ⊢ WP c (putL lM s h (lPart I c (dn c j) h)) fun _ => Pl') :
    iprop(Po ∗ Pl ∗ slP c cc0_scratch0 (rQ j) q (qC I c) ∗ whP c cc0_scratch1 fullShare gk ∗ whP c cc0_scratch2 fullShare gv)
      ⊢ WP c (attend oM hoM lM j s h)
          fun _ => iprop(Po' ∗ Pl' ∗ slP c cc0_scratch0 (rQ j) q (qC I c) ∗ whP c cc0_scratch1 fullShare gk ∗ whP c cc0_scratch2 fullShare gv) := by
  have ek : (fun x => gk ((rKV h).emb x)) = Kv I c h := (funext fun x => hk _ (emb_rKV_zero h x)).trans (rd_kC I c h)
  have ev : (fun x => gv ((rKV h).emb x)) = Vv I c h := (funext fun x => hv _ (emb_rKV_zero h x)).trans (rd_vC I c h)
  rw [attend_eq]
  unfold slP whP
  iintro ⟨HO, HL, Hq, Hk, Hv⟩
  iapply (wp_load_rect 𝒱₀ (c : Thread nD τ) none Set.univ (m := qbuf) (r := rQh j h) (S := (rQ j).set) (by rw [set_access1]; exact rQh_sub j h)) $$ Hq
  iintro Hq
  rw [show (qbuf.access (rQh j h)).read (Elt F) (qC I c) = qh I (dn c j) h from rd_qC I c j h]
  iapply (wp_load_rect 𝒱₀ (c : Thread nD τ) none Set.univ (m := kbuf) (r := rKV h) (S := Finset.univ) (Finset.subset_univ _)) $$ Hk
  iintro Hk
  rw [show (kbuf.access (rKV h)).read (Elt F) gk = Kv I c h from ek, wp_bind]
  iapply (hL.trans (wp_wand _ _ _)) $$ HL
  iintro %_ HL
  iapply (wp_load_rect 𝒱₀ (c : Thread nD τ) none Set.univ (m := vbuf) (r := rKV h) (S := Finset.univ) (Finset.subset_univ _)) $$ Hv
  iintro Hv
  rw [show (vbuf.access (rKV h)).read (Elt F) gv = Vv I c h from ev]
  iapply (hO.trans (wp_wand _ _ _)) $$ HO
  iintro %_ HO
  isplitl [HO]; · iexact HO
  isplitl [HL]; · iexact HL
  isplitl [Hq]; · iexact Hq
  isplitl [Hk]; · iexact Hk
  iexact Hv

/-! ## The local copies of keys and values -/

/-- A staging slot with nothing on its way, and its semaphore at zero. -/
def idle (c : Dev nD) (T : Memref sig .tc .vmem S2x4096x128 .f32) (A : DmaSems sig S2) (σ : Fin 2) : sProp 𝕄 :=
  iprop((∃ fd, (slT T σ).view.loc (c : Thread nD τ) ↦[(slT T σ).view.set]{fullShare} fd) ∗ semVal ((c : Thread nD τ), SemLoc.dma (sem2 A σ)) 0)
/-- Head `h` of an argument array. -/
def inP (c : Dev nD) (M : Memref sig .tc .hbm S1x4096x8x128 .f32) (fs : Buf (Elt F) (M.view.loc (c : Thread nD τ))) (h : Fin 8) : sProp 𝕄 :=
  (slIn M h).view.loc (c : Thread nD τ) ↦[(slIn M h).view.set]{fullShare} fs
/-- Head `h` in its staging slot. -/
def landed (c : Dev nD) (M : Memref sig .tc .hbm S1x4096x8x128 .f32) (T : Memref sig .tc .vmem S2x4096x128 .f32)
    (fs : Buf (Elt F) (M.view.loc (c : Thread nD τ))) (h : Fin 8) (fd : Buf (Elt F) ((slT T (par h)).view.loc (c : Thread nD τ))) : sProp 𝕄 :=
  (slT T (par h)).view.loc (c : Thread nD τ) ↦[(slT T (par h)).view.set]{fullShare}
    ((slT T (par h)).view.write (Elt F) fd ((slIn M h).view.read (Elt F) fs) Finset.univ)
/-- Head `h` on its way. -/
def flight (c : Dev nD) (M : Memref sig .tc .hbm S1x4096x8x128 .f32) (T : Memref sig .tc .vmem S2x4096x128 .f32) (A : DmaSems sig S2)
    (fs : Buf (Elt F) (M.view.loc (c : Thread nD τ))) (h : Fin 8) : sProp 𝕄 :=
  iprop(∃ fd, Flight (countersEmb (U := UU)) (c : Thread nD τ) (.dma (sem2 A (par h))) () (slT T (par h)).view.dmaCredit
    iprop(landed c M T fs h fd ∗ inP c M fs h))

theorem wp_kvOp (c : Dev nD) (M : Memref sig .tc .hbm S1x4096x8x128 .f32) (T : Memref sig .tc .vmem S2x4096x128 .f32) (A : DmaSems sig S2)
    (fs : Buf (Elt F) (M.view.loc (c : Thread nD τ))) (h : Fin 8) :
    iprop(idle c T A (par h) ∗ inP c M fs h) ⊢ WP c (kvOp M T A h) fun _ => flight c M T A fs h := by
  unfold idle kvOp Prog.lift flight landed inP
  iintro ⟨⟨⟨%fd, Hd⟩, Hz⟩, Hs⟩
  iapply (Transfers.wp_dmaLocal (countersEmb (U := UU)) 𝒱₀ (c : Thread nD τ) none () _ rfl (View.dmaCredit_pos _ (by decide)) (Finset.Subset.refl _)) $$ [Hd Hz Hs]
  · isplitl [Hs]; · iexact Hs
    isplitl [Hd]; · iexact Hd
    iexact Hz
  iintro H
  rw [wp_ret]; imodintro
  iexists fd; iexact H

variable (K : Dev nD × Key → ℕ)

theorem wp_kvWait (c : Dev nD) (M : Memref sig .tc .hbm S1x4096x8x128 .f32) (T : Memref sig .tc .vmem S2x4096x128 .f32) (A : DmaSems sig S2)
    (fs : Buf (Elt F) (M.view.loc (c : Thread nD τ))) (h : Fin 8) (hA : ∀ σ, (dec (.dma (sem2 A σ))).elim 0 lvK = 0)
    (S : Finset Tok) (hS : ∀ x ∈ S, 0 < lvK (ckey x)) :
    iprop(Rec I K ∗ flight c M T A fs h ∗ ow c S)
      ⊢ WP c (kvWait M T A h) fun _ => iprop((∃ fd, landed c M T fs h fd) ∗ semVal ((c : Thread nD τ), SemLoc.dma (sem2 A (par h))) 0 ∗ inP c M fs h ∗ ow c S) := by
  unfold kvWait Prog.lift flight ow
  iintro ⟨#HR, ⟨%fd, HF⟩, ⟨%W, HO⟩⟩
  iapply (Transfers.wp_waitLocalO (countersEmb (U := UU)) 𝒱₀ (c : Thread nD τ) none () rfl) $$ [HF HO]
  · isplitl [HF]; · iexact HF
    isplitl [HO]; · iexact HO
    iapply (may_wait c (.dma (sem2 A (par h))) 0 (hA _) S hS)
    iapply (Rec_lev I K); iexact HR
  iintro ⟨⟨Hl, Hi⟩, Hz, HO⟩
  rw [wp_ret]; imodintro
  isplitl [Hl]; · iexists fd; iexact Hl
  isplitl [Hz]; · iexact Hz
  isplitl [Hi]; · iexact Hi
  iexists _; iexact HO

/-! ## Conversion -/

/-- The heads below `n` converted. -/
def okK (n : ℕ) (f g : S8x4096x128.Idx → F .bf16) : Prop := ∀ i, (i 0).val < n → g i = f i

theorem okK_zero (f g : S8x4096x128.Idx → F .bf16) : okK 0 f g := fun i h => absurd h (by omega)
theorem okK_eight (f g : S8x4096x128.Idx → F .bf16) (h : okK 8 f g) : g = f := funext fun i => h i (i 0).isLt
theorem okK_succ (h : Fin 8) (f g g' : S8x4096x128.Idx → F .bf16) (hg : okK h.val f g)
    (hin : ∀ x, g' ((rKV h).emb x) = f ((rKV h).emb x)) (hout : ∀ i, i ∉ (rKV h).set → g' i = g i) : okK (h.val + 1) f g' := fun i hn => by
  by_cases hm : i ∈ (rKV h).set
  · rw [of_mem_rKV h i hm]; exact hin _
  · rw [hout i hm]
    refine hg i ?_
    by_contra hc
    exact hm ((mem_rKV h i).mpr (Fin.ext (by omega)))

theorem landed_k (h : Fin 8) (fd : S2x4096x128.Idx → F .f32) (fs : S1x4096x8x128.Idx → F .f32) (x : S1x4096x128.Idx) :
    (slT ktmp (par h)).view.write (Elt F) fd ((slIn kIn h).view.read (Elt F) fs) Finset.univ ((rT (par h)).emb x) = headIn fs h x := by
  obtain ⟨a, b, d, rfl⟩ : ∃ a b d, x = ix3 a b d := ⟨_, _, _, eq_ix3 x⟩
  obtain rfl : a = 0 := Subsingleton.elim _ _
  refine (congrArg _ (congrArg (rT (par h)).emb (sq_T squeezes_S1x4096x128_S4096x128.numel_eq b d).symm)).trans ?_
  refine (cp_in (b := cc0_scratch3) (rT (par h)) fd (fun _ => rfl) squeezes_S1x4096x128_S4096x128 ((slIn kIn h).view.read (Elt F) fs) (ix2 b d)).trans ?_
  refine (rd_sl (b := main_arg2) (rIn h) fs (fun _ => rfl) squeezes_S1x4096x1x128_S4096x128 (ix2 b d)).trans ?_
  exact congrArg fs ((congrArg (rIn h).emb (sq_In squeezes_S1x4096x1x128_S4096x128.numel_eq b d)).trans (emb_rIn h 0 0 b d))

end Cert.KernelIdeal.Pf
-- ==== Proof.KernelIdeal.Local2.lean ====
/- The rules of the conversion of keys and values, of the queries, of the sums, of their division and of
   the output projection. -/
module

public import proofs.«01_k».proof.Proof.KernelIdeal.Local

@[expose] public section

set_option synthInstance.maxSize 4096

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop Flight)

variable {F : FTy → Type} [FloatOps F]

local notation "𝕄" => MT nD τ sig Unit (Elt F) ℕ UU ℕ

variable (I : Inp F)

/-! ## Conversion of a head -/

theorem kC_of_rKV (c : Dev nD) (h : Fin 8) (x : S1x4096x128.Idx) : k0_pay3 (headIn (I.k c) h) x = kC I c ((rKV h).emb x) :=
  (congrFun (rd_kC I c h) x).symm
theorem vC_of_rKV (c : Dev nD) (h : Fin 8) (x : S1x4096x128.Idx) : k0_pay4 (headIn (I.v c) h) x = vC I c ((rKV h).emb x) :=
  (congrFun (rd_vC I c h) x).symm

theorem landed_v (h : Fin 8) (fd : S2x4096x128.Idx → F .f32) (fs : S1x4096x8x128.Idx → F .f32) (x : S1x4096x128.Idx) :
    (slT vtmp (par h)).view.write (Elt F) fd ((slIn vIn h).view.read (Elt F) fs) Finset.univ ((rT (par h)).emb x) = headIn fs h x := by
  obtain ⟨a, b, d, rfl⟩ : ∃ a b d, x = ix3 a b d := ⟨_, _, _, eq_ix3 x⟩
  obtain rfl : a = 0 := Subsingleton.elim _ _
  refine (congrArg _ (congrArg (rT (par h)).emb (sq_T squeezes_S1x4096x128_S4096x128.numel_eq b d).symm)).trans ?_
  refine (cp_in (b := cc0_scratch4) (rT (par h)) fd (fun _ => rfl) squeezes_S1x4096x128_S4096x128 ((slIn vIn h).view.read (Elt F) fs) (ix2 b d)).trans ?_
  refine (rd_sl (b := main_arg3) (rIn h) fs (fun _ => rfl) squeezes_S1x4096x1x128_S4096x128 (ix2 b d)).trans ?_
  exact congrArg fs ((congrArg (rIn h).emb (sq_In squeezes_S1x4096x1x128_S4096x128.numel_eq b d)).trans (emb_rIn h 0 0 b d))

theorem wp_convK (c : Dev nD) (h : Fin 8) :
    iprop((∃ fd, landed c kIn ktmp (I.k c) h fd) ∗ whE c cc0_scratch1 (okK h.val (kC I c)))
      ⊢ WP c (conv ktmp kbuf (Memref.isWhole_whole _) k0_pay3 h)
          fun _ => iprop((∃ fd, (slT ktmp (par h)).view.loc (c : Thread nD τ) ↦[(slT ktmp (par h)).view.set]{fullShare} fd)
            ∗ whE c cc0_scratch1 (okK (h.val + 1) (kC I c))) := by
  unfold landed whE whP conv Prog.lift
  simp only [Prog.bind_op, Prog.bind_ret]
  iintro ⟨⟨%fd, HT⟩, ⟨%g, %hg, HB⟩⟩
  iapply (wp_load_rect 𝒱₀ (c : Thread nD τ) none Set.univ (m := ktmp) (r := rT (par h)) (S := (slT ktmp (par h)).view.set)
    (by rw [set_access1, set_sl])) $$ HT
  iintro HT
  rw [show (ktmp.access (rT (par h))).read (Elt F) ((slT ktmp (par h)).view.write (Elt F) fd ((slIn kIn h).view.read (Elt F) (I.k c)) Finset.univ) = headIn (I.k c) h from funext fun x => landed_k h fd (I.k c) x]
  iapply (wp_load_rect 𝒱₀ (c : Thread nD τ) none Set.univ (m := kbuf) (r := rKV h) (S := Finset.univ) (Finset.subset_univ _)) $$ HB
  iintro HB
  iapply (wp_store 𝒱₀ (c : Thread nD τ) none Set.univ (m := kbuf) (r := rKV h) (Mk := Finset.univ) (S := Finset.univ) (Finset.subset_univ _)) $$ HB
  iintro HB
  rw [wp_ret]; imodintro
  isplitl [HT]; · iexists _; iexact HT
  iexists _
  isplitr
  · ipureintro
    exact okK_succ h _ g _ hg (fun x => (wr_in (b := cc0_scratch1) (rKV h) g (k0_pay3 (headIn (I.k c) h)) x).trans (kC_of_rKV I c h x))
      (fun i hi => wr_out (b := cc0_scratch1) (rKV h) g (k0_pay3 (headIn (I.k c) h)) i hi)
  iexact HB
theorem wp_convV (c : Dev nD) (h : Fin 8) :
    iprop((∃ fd, landed c vIn vtmp (I.v c) h fd) ∗ whE c cc0_scratch2 (okK h.val (vC I c)))
      ⊢ WP c (conv vtmp vbuf (Memref.isWhole_whole _) k0_pay4 h)
          fun _ => iprop((∃ fd, (slT vtmp (par h)).view.loc (c : Thread nD τ) ↦[(slT vtmp (par h)).view.set]{fullShare} fd)
            ∗ whE c cc0_scratch2 (okK (h.val + 1) (vC I c))) := by
  unfold landed whE whP conv Prog.lift
  simp only [Prog.bind_op, Prog.bind_ret]
  iintro ⟨⟨%fd, HT⟩, ⟨%g, %hg, HB⟩⟩
  iapply (wp_load_rect 𝒱₀ (c : Thread nD τ) none Set.univ (m := vtmp) (r := rT (par h)) (S := (slT vtmp (par h)).view.set)
    (by rw [set_access1, set_sl])) $$ HT
  iintro HT
  rw [show (vtmp.access (rT (par h))).read (Elt F) ((slT vtmp (par h)).view.write (Elt F) fd ((slIn vIn h).view.read (Elt F) (I.v c)) Finset.univ) = headIn (I.v c) h from funext fun x => landed_v h fd (I.v c) x]
  iapply (wp_load_rect 𝒱₀ (c : Thread nD τ) none Set.univ (m := vbuf) (r := rKV h) (S := Finset.univ) (Finset.subset_univ _)) $$ HB
  iintro HB
  iapply (wp_store 𝒱₀ (c : Thread nD τ) none Set.univ (m := vbuf) (r := rKV h) (Mk := Finset.univ) (S := Finset.univ) (Finset.subset_univ _)) $$ HB
  iintro HB
  rw [wp_ret]; imodintro
  isplitl [HT]; · iexists _; iexact HT
  iexists _
  isplitr
  · ipureintro
    exact okK_succ h _ g _ hg (fun x => (wr_in (b := cc0_scratch2) (rKV h) g (k0_pay4 (headIn (I.v c) h)) x).trans (vC_of_rKV I c h x))
      (fun i hi => wr_out (b := cc0_scratch2) (rKV h) g (k0_pay4 (headIn (I.v c) h)) i hi)
  iexact HB

/-! ## The queries -/

theorem hz2 : (![0, 0] : Fin 2 → Nat) = fun _ => 0 := by funext a; fin_cases a <;> rfl
theorem hz3 : (![0, 0, 0] : Fin 3 → Nat) = fun _ => 0 := by funext a; fin_cases a <;> rfl

theorem Qv_of_rQ (c : Dev nD) (x : S1x256x1024.Idx) : Qv I c x = qC I c ((rQ 0).emb x) := by
  obtain ⟨a, b, d, rfl⟩ : ∃ a b d, x = ix3 a b d := ⟨_, _, _, eq_ix3 x⟩
  obtain rfl : a = 0 := Subsingleton.elim _ _
  refine Eq.trans ?_ (congrArg (qC I c) (emb_rQ 0 0 b d)).symm
  unfold qC
  exact (congrArg (fun e => Qv I e (ix3 0 b d)) (dn_zero c)).symm

theorem wp_queries (c : Dev nD) (q₀ q₁ : PosShare TreeShare) :
    iprop(whP c cc0_stg0_0 q₀ (I.x c) ∗ whP c cc0_stg1_0 q₁ (I.wq c) ∗ slE c cc0_scratch0 (rQ 0) (fun _ => True))
      ⊢ WP c (queries (Memref.whole cc0_stg0_0) (Memref.whole cc0_stg1_0))
          fun _ => iprop(whP c cc0_stg0_0 q₀ (I.x c) ∗ whP c cc0_stg1_0 q₁ (I.wq c) ∗ slP c cc0_scratch0 (rQ 0) fullShare (qC I c)) := by
  unfold slE slP whP queries Prog.lift
  simp only [Prog.bind_op, Prog.bind_ret]
  iintro ⟨H0, H1, ⟨%g, %hg, HQ⟩⟩
  iapply (wp_load 𝒱₀ (c : Thread nD τ) none Set.univ (m := Memref.whole cc0_stg0_0) (S := Finset.univ) (Finset.subset_univ _)) $$ H0
  iintro H0
  rw [show (Memref.whole cc0_stg0_0).view.readAt (Elt F) (Rect.unit (s := S1x256x1024) ![0, 0, 0] S1x256x1024.size inbX).toLoadRect (I.x c) = (I.x c) from Memref.readAt_unit_zero (Elt F) cc0_stg0_0 hz3 _ _]
  iapply (wp_load 𝒱₀ (c : Thread nD τ) none Set.univ (m := Memref.whole cc0_stg1_0) (S := Finset.univ) (Finset.subset_univ _)) $$ H1
  iintro H1
  rw [show (Memref.whole cc0_stg1_0).view.readAt (Elt F) (Rect.unit (s := S1024x1024) ![0, 0] S1024x1024.size inbW).toLoadRect (I.wq c) = (I.wq c) from Memref.readAt_unit_zero (Elt F) cc0_stg1_0 hz2 _ _]
  iapply (wp_load_rect 𝒱₀ (c : Thread nD τ) none Set.univ (m := qbuf) (r := rQ 0) (S := (rQ 0).set) (by rw [set_access1])) $$ HQ
  iintro HQ
  iapply (wp_store 𝒱₀ (c : Thread nD τ) none Set.univ (m := qbuf) (r := rQ 0) (Mk := Finset.univ) (S := (rQ 0).set) (by rw [set_access])) $$ HQ
  iintro HQ
  rw [wp_ret]; imodintro
  isplitl [H0]; · iexact H0
  isplitl [H1]; · iexact H1
  iapply (Entails.of_eq (pointsTo_congr (fun i hi => by
    rw [of_mem_rQ 0 i hi]
    exact (wr_in (b := cc0_scratch0) (rQ 0) g (Qv I c) _).trans (Qv_of_rQ I c _)))) $$ HQ

/-! ## The sums -/

theorem wp_accLoad (c : Dev nD) (j : Fin 8) :
    iprop(slP c cc0_scratch6 (rQ j) fullShare (orC I c) ∗ slP c cc0_scratch8 (rL j) fullShare (lrC I c))
      ⊢ WP c (accLoad j) fun p => iprop(⌜p = (oSl I c j, lSl I c j)⌝
          ∗ slP c cc0_scratch6 (rQ j) fullShare (orC I c) ∗ slP c cc0_scratch8 (rL j) fullShare (lrC I c)) := by
  unfold accLoad Prog.lift slP
  simp only [Prog.bind_op, Prog.bind_ret]
  iintro ⟨HO, HL⟩
  iapply (wp_load_rect 𝒱₀ (c : Thread nD τ) none Set.univ (m := orecv) (r := rQ j) (S := (rQ j).set) (by rw [set_access1])) $$ HO
  iintro HO
  rw [show (orecv.access (rQ j)).read (Elt F) (orC I c) = oSl I c j from rd_orC I c j]
  iapply (wp_load_rect 𝒱₀ (c : Thread nD τ) none Set.univ (m := lrecv) (r := rL j) (S := (rL j).set) (by rw [set_access1])) $$ HL
  iintro HL
  rw [show (lrecv.access (rL j)).read (Elt F) (lrC I c) = lSl I c j from rd_lrC I c j]
  rw [show (pure (oSl I c j, lSl I c j) : PB F (Vec F S1x256x1024 .bf16 × Vec F S1x256x8 .f32)) = .ret (oSl I c j, lSl I c j) from rfl, wp_ret]
  imodintro
  isplitr; · ipureintro; rfl
  isplitl [HO]; · iexact HO
  iexact HL

/-! ## The division -/

/-- The heads below `n` normalised. -/
def okA (n : ℕ) (f g : S256x1024.Idx → F .bf16) : Prop := ∀ i, (i 1).val < 128 * n → g i = f i

theorem okA_zero (f g : S256x1024.Idx → F .bf16) : okA 0 f g := fun i h => absurd h (by omega)
theorem okA_eight (f g : S256x1024.Idx → F .bf16) (h : okA 8 f g) : g = f := funext fun i => h i (i 1).isLt

theorem okA_succ (h : Fin 8) (a : Acc F) (g g' : S256x1024.Idx → F .bf16) (hg : okA h.val (attOf a) g)
    (hin : ∀ x, g' ((rA h).emb x) = normV a h x) (hout : ∀ i, i ∉ (rA h).set → g' i = g i) : okA (h.val + 1) (attOf a) g' := fun i hn => by
  by_cases hm : i ∈ (rA h).set
  · refine (congrArg g' (of_mem_rA h i hm)).trans ((hin _).trans ?_)
    unfold attOf; rw [hd_of_mem_rA h i hm]
  · rw [hout i hm]
    refine hg i ?_
    by_contra hc
    exact hm ((mem_rA h i).mpr ⟨by omega, by omega⟩)

theorem wp_norm (c : Dev nD) (a : Acc F) (h : Fin 8) :
    whE c cc0_scratch9 (okA h.val (attOf a)) ⊢ WP c (norm a h) fun _ => whE c cc0_scratch9 (okA (h.val + 1) (attOf a)) := by
  unfold whE whP norm Prog.lift
  simp only [Prog.bind_op, Prog.bind_ret]
  iintro ⟨%g, %hg, H⟩
  iapply (wp_load_rect 𝒱₀ (c : Thread nD τ) none Set.univ (m := attbuf) (r := rA h) (S := Finset.univ) (Finset.subset_univ _)) $$ H
  iintro H
  iapply (wp_store 𝒱₀ (c : Thread nD τ) none Set.univ (m := attbuf) (r := rA h) (Mk := Finset.univ) (S := Finset.univ) (Finset.subset_univ _)) $$ H
  iintro H
  rw [wp_ret]; imodintro
  iexists _
  isplitr
  · ipureintro
    exact okA_succ h a g _ hg (fun x => wr_in (b := cc0_scratch9) (rA h) g (normV a h) x) (fun i hi => wr_out (b := cc0_scratch9) (rA h) g (normV a h) i hi)
  iexact H

theorem wp_project (c : Dev nD) (a : Acc F) (q : PosShare TreeShare) :
    iprop(whP c cc0_scratch9 fullShare (attOf a) ∗ whP c cc0_stg2_0 q (I.wo c) ∗ whE c cc0_stg3_0 (fun _ => True))
      ⊢ WP c (project (Memref.whole cc0_stg2_0) (Memref.whole cc0_stg3_0))
          fun _ => iprop(whP c cc0_scratch9 fullShare (attOf a) ∗ whP c cc0_stg2_0 q (I.wo c)
            ∗ whP c cc0_stg3_0 fullShare (k0_pay276 (k0_pay275 (attOf a) (I.wo c)))) := by
  unfold whE whP project Prog.lift
  simp only [Prog.bind_op, Prog.bind_ret]
  iintro ⟨HA, H2, ⟨%g, %hg, H3⟩⟩
  iapply (wp_load 𝒱₀ (c : Thread nD τ) none Set.univ (m := attbuf) (S := Finset.univ) (Finset.subset_univ _)) $$ HA
  iintro HA
  rw [show (Memref.whole cc0_scratch9).view.readAt (Elt F) (Rect.unit (s := S256x1024) ![0, 0] S256x1024.size inbAtt).toLoadRect (attOf a) = (attOf a) from Memref.readAt_unit_zero (Elt F) cc0_scratch9 hz2 _ _]
  iapply (wp_load 𝒱₀ (c : Thread nD τ) none Set.univ (m := Memref.whole cc0_stg2_0) (S := Finset.univ) (Finset.subset_univ _)) $$ H2
  iintro H2
  rw [show (Memref.whole cc0_stg2_0).view.readAt (Elt F) (Rect.unit (s := S1024x1024) ![0, 0] S1024x1024.size inbW).toLoadRect (I.wo c) = (I.wo c) from Memref.readAt_unit_zero (Elt F) cc0_stg2_0 hz2 _ _]
  iapply (wp_load 𝒱₀ (c : Thread nD τ) none Set.univ (m := Memref.whole cc0_stg3_0) (S := Finset.univ) (Finset.subset_univ _)) $$ H3
  iintro H3
  iapply (wp_store 𝒱₀ (c : Thread nD τ) none Set.univ (m := Memref.whole cc0_stg3_0) (r := Rect.unit (s := S1x256x1024) ![0, 0, 0] S1x256x1024.size inbX) (Mk := Finset.univ) (S := Finset.univ) (Finset.subset_univ _)) $$ H3
  iintro H3
  rw [wp_ret]; imodintro
  isplitl [HA]; · iexact HA
  isplitl [H2]; · iexact H2
  iapply (Entails.of_eq (congrArg (fun f => (((c : Thread nD τ).loc cc0_stg3_0) ↦{fullShare} f : sProp 𝕄))
    (Memref.write_access_unit_zero_univ (Elt F) cc0_stg3_0 hz3 _ g (k0_pay276 (k0_pay275 (attOf a) (I.wo c)))))) $$ H3

end Cert.KernelIdeal.Pf
-- ==== Proof.KernelIdeal.Talk.lean ====
/- The conversation's steps: the queries sent, a block served and its sums sent back, the sums received,
   and the waits for what was sent to have left. -/
module

public import proofs.«01_k».proof.Proof.KernelIdeal.Local2

@[expose] public section

set_option synthInstance.maxSize 4096

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop Flight)

variable {F : FTy → Type} [FloatOps F]

local notation "𝕄" => MT nD τ sig Unit (Elt F) ℕ UU ℕ

variable (I : Inp F) (K : Dev nD × Key → ℕ)

/-! ## What a transfer leaves in its slot -/

theorem copy_q (s t : Fin 8) (fd fs f : S8x256x1024.Idx → F .bf16) (h : ∀ x y, fs (ix3 s x y) = f (ix3 t x y)) :
    ∀ i ∈ (rQ t).set, (slQ qbuf t).view.write (Elt F) fd ((slQ qbuf s).view.read (Elt F) fs) Finset.univ i = f i := fun i hi => by
  have hi' := of_mem_rQ t i hi
  obtain ⟨a, x, y, rfl⟩ : ∃ a x y, i = ix3 a x y := ⟨_, _, _, eq_ix3 i⟩
  refine (congrArg _ (hi'.trans (congrArg (rQ t).emb (sq_Q squeezes_S1x256x1024_S256x1024.numel_eq x y).symm))).trans ?_
  refine (cp_in (b := cc0_scratch0) (rQ t) fd (fun _ => rfl) squeezes_S1x256x1024_S256x1024 ((slQ qbuf s).view.read (Elt F) fs) (ix2 x y)).trans ?_
  refine (rd_sl (b := cc0_scratch0) (rQ s) fs (fun _ => rfl) squeezes_S1x256x1024_S256x1024 (ix2 x y)).trans ?_
  refine (congrArg fs ((congrArg (rQ s).emb (sq_Q squeezes_S1x256x1024_S256x1024.numel_eq x y)).trans (emb_rQ s 0 x y))).trans ?_
  exact (h x y).trans (congrArg f (hi'.trans (emb_rQ t 0 x y))).symm
theorem copy_o (s t : Fin 8) (fd fs f : S8x256x1024.Idx → F .bf16) (h : ∀ x y, fs (ix3 s x y) = f (ix3 t x y)) :
    ∀ i ∈ (rQ t).set, (slQ orecv t).view.write (Elt F) fd ((slQ osend s).view.read (Elt F) fs) Finset.univ i = f i := fun i hi => by
  have hi' := of_mem_rQ t i hi
  obtain ⟨a, x, y, rfl⟩ : ∃ a x y, i = ix3 a x y := ⟨_, _, _, eq_ix3 i⟩
  refine (congrArg _ (hi'.trans (congrArg (rQ t).emb (sq_Q squeezes_S1x256x1024_S256x1024.numel_eq x y).symm))).trans ?_
  refine (cp_in (b := cc0_scratch6) (rQ t) fd (fun _ => rfl) squeezes_S1x256x1024_S256x1024 ((slQ osend s).view.read (Elt F) fs) (ix2 x y)).trans ?_
  refine (rd_sl (b := cc0_scratch5) (rQ s) fs (fun _ => rfl) squeezes_S1x256x1024_S256x1024 (ix2 x y)).trans ?_
  refine (congrArg fs ((congrArg (rQ s).emb (sq_Q squeezes_S1x256x1024_S256x1024.numel_eq x y)).trans (emb_rQ s 0 x y))).trans ?_
  exact (h x y).trans (congrArg f (hi'.trans (emb_rQ t 0 x y))).symm
theorem copy_l (s t : Fin 8) (fd fs f : S8x256x8.Idx → F .f32) (h : ∀ x y, fs (ix3 s x y) = f (ix3 t x y)) :
    ∀ i ∈ (rL t).set, (slL lrecv t).view.write (Elt F) fd ((slL lsend s).view.read (Elt F) fs) Finset.univ i = f i := fun i hi => by
  have hi' := of_mem_rL t i hi
  obtain ⟨a, x, y, rfl⟩ : ∃ a x y, i = ix3 a x y := ⟨_, _, _, eq_ix3 i⟩
  refine (congrArg _ (hi'.trans (congrArg (rL t).emb (sq_L squeezes_S1x256x8_S256x8.numel_eq x y).symm))).trans ?_
  refine (cp_in (b := cc0_scratch8) (rL t) fd (fun _ => rfl) squeezes_S1x256x8_S256x8 ((slL lsend s).view.read (Elt F) fs) (ix2 x y)).trans ?_
  refine (rd_sl (b := cc0_scratch7) (rL s) fs (fun _ => rfl) squeezes_S1x256x8_S256x8 (ix2 x y)).trans ?_
  refine (congrArg fs ((congrArg (rL s).emb (sq_L squeezes_S1x256x8_S256x8.numel_eq x y)).trans (emb_rL s 0 x y))).trans ?_
  exact (h x y).trans (congrArg f (hi'.trans (emb_rL t 0 x y))).symm

/-- A slot as the transfers name it is the slot. -/
theorem slP_slice {b : Ref sig .tc} (r : Rect b.ty.shape) (hr) {s' : Shape} (hq) (c : Dev nD) (q : PosShare TreeShare) (f : b.ty.Contents (Elt F)) :
    ((((Memref.whole b).slice r hr).squeeze s' hq).view.loc (c : Thread nD τ)
      ↦[(((Memref.whole b).slice r hr).squeeze s' hq).view.set]{q} f : sProp 𝕄) = slP c b r q f := by
  unfold slP; rw [set_sl]

theorem slP_congr (c : Dev nD) (b : Ref sig .tc) (r : Rect b.ty.shape) (q : PosShare TreeShare) (f g : b.ty.Contents (Elt F))
    (h : ∀ i ∈ r.set, f i = g i) : slP c b r q f = slP c b r q g := by
  unfold slP; exact pointsTo_congr h

theorem payK_0 (c : Dev nD) (t : Fin 8) : payK I c (some (0, t)) 0 ⊢ slP c cc0_scratch0 (rQ 0) (qTok t) (qC I c) := .rfl
theorem payK_0' (c : Dev nD) (t : Fin 8) : slP c cc0_scratch0 (rQ 0) (qTok t) (qC I c) ⊢ payK I c (some (0, t)) 0 := .rfl
theorem payK_1 (c : Dev nD) (t : Fin 8) : payK I c (some (1, t)) 0 ⊢ slP c cc0_scratch0 (rQ t) fullShare (qC I c) := .rfl
theorem payK_2 (c : Dev nD) (t : Fin 8) : payK I c (some (2, t)) 0 ⊢ slP c cc0_scratch5 (rQ t) fullShare (osC I c) := .rfl
theorem payK_3 (c : Dev nD) (t : Fin 8) : payK I c (some (3, t)) 0 ⊢ slP c cc0_scratch6 (rQ t) fullShare (orC I c) := .rfl
theorem payK_4 (c : Dev nD) (t : Fin 8) : payK I c (some (4, t)) 0 ⊢ slP c cc0_scratch7 (rL t) fullShare (lsC I c) := .rfl
theorem payK_5 (c : Dev nD) (t : Fin 8) : payK I c (some (5, t)) 0 ⊢ slP c cc0_scratch8 (rL t) fullShare (lrC I c) := .rfl

/-! ## The queries sent -/

theorem left_q : ∀ t : Fin 8, t ≠ 0 → left (8 + t.val) = insert ((1, t) : Tok) (left (8 + t.val + 1)) ∧ ((1, t) : Tok) ∉ left (8 + t.val + 1) := by decide +kernel
theorem left_o : ∀ j : Fin 8, j ≠ 0 → left (16 + 2 * j.val) = insert ((3, -j) : Tok) (left (16 + 2 * j.val + 1)) ∧ ((3, -j) : Tok) ∉ left (16 + 2 * j.val + 1) := by decide +kernel
theorem left_l : ∀ j : Fin 8, j ≠ 0 → left (16 + 2 * j.val + 1) = insert ((5, -j) : Tok) (left (16 + 2 * (j.val + 1))) ∧ ((5, -j) : Tok) ∉ left (16 + 2 * (j.val + 1)) := by decide +kernel
theorem left_all : left 32 = ∅ := by decide +kernel
theorem left_mid : left 18 = left 16 := by decide +kernel
theorem neg_ne : ∀ j : Fin 8, j ≠ 0 → -j ≠ 0 := by decide
theorem ckey_lt (a : Fin 6) (t : Fin 8) : ckey (a.castSucc, t) = some (a, t) := dif_pos a.isLt
theorem dut_lt : ∀ (a : Fin 6) (t : Fin 8), dut (a.castSucc, t) = 0 := by decide
theorem dir_0 : ∀ t : Fin 8, dir (0, t) = 0 := by decide
theorem dir_1 : ∀ t : Fin 8, dir (1, t) = t := by decide
theorem dir_2 : ∀ t : Fin 8, dir (2, t) = 0 := by decide
theorem dir_3 : ∀ t : Fin 8, dir (3, t) = t := by decide
theorem dir_4 : ∀ t : Fin 8, dir (4, t) = 0 := by decide
theorem dir_5 : ∀ t : Fin 8, dir (5, t) = t := by decide
theorem up_zero : ∀ c : Dev nD, up c 0 = c := by decide +kernel

theorem wp_qSend (c : Dev nD) (t : Fin 8) (ht : t ≠ 0) :
    iprop(Rec I K ∗ slP c cc0_scratch0 (rQ 0) (qTok t) (qC I c) ∗ (∃ f, slP (F := F) (up c t) cc0_scratch0 (rQ t) fullShare f)
        ∗ pay c (0, t) ∗ pay c (1, t) ∗ ow c (left (8 + t.val)))
      ⊢ WP c (qSend c t) fun _ => iprop(due c (some (0, t)) ∗ ow c (left (8 + t.val + 1))) := by
  unfold qSend
  have hn : up c t = qDev c t := (qDev_eq c t ht).symm
  have hp : ((slQ qbuf 0).view.loc (c : Thread nD τ) ↦[(slQ qbuf 0).view.set]{qTok t} (qC I c)) ⊢ payK I c (some (0, t)) 0 :=
    (Entails.of_eq (slP_slice (b := cc0_scratch0) (rQ 0) (fun _ => rfl) squeezes_S1x256x1024_S256x1024 c (qTok t) (qC I c))).trans (payK_0' I c t)
  refine BIBase.Entails.trans ?_ (wp_sendX I K c (qDev c t) 0 1 t ht (1, t) (ckey_lt 1 t) (dut_lt 1 t) (by rw [dir_1]; exact hn) (0, t) (ckey_lt 0 t) (dut_lt 0 t)
    (by rw [dir_0, up_zero]) (left_q t ht).1 (left_q t ht).2 (credit_q t) rfl (src := slQ qbuf 0) (dst := slQ qbuf t) (q := qTok t) (fs := qC I c)
    hp fun fd => ?_)
  · rw [hn]
    iintro ⟨HR, Hs, ⟨%fd, Hd⟩, H0, H1, HO⟩
    isplitl [HR]; · iexact HR
    isplitl [Hs]
    · iapply (Entails.of_eq (slP_slice (b := cc0_scratch0) (rQ 0) _ _ c _ _).symm) $$ Hs
    isplitl [Hd]
    · iexists fd
      iapply (Entails.of_eq (slP_slice (b := cc0_scratch0) (rQ t) _ _ (qDev c t) _ _).symm) $$ Hd
    isplitl [H0]; · iexact H0
    isplitl [H1]; · iexact H1
    iexact HO
  · refine (Entails.of_eq (slP_slice (b := cc0_scratch0) (rQ t) _ _ (qDev c t) _ _)).trans (Entails.of_eq (slP_congr _ _ _ _ _ _ ?_))
    refine copy_q 0 t fd (qC I c) (qC I (qDev c t)) fun x y => ?_
    rw [← hn]
    show Qv I (dn c 0) (ix3 0 x y) = Qv I (dn (up c t) t) (ix3 0 x y)
    rw [dn_zero, dn_up]

/-! ## The sums sent -/

theorem wp_oSend (c : Dev nD) (j : Fin 8) (hj : j ≠ 0) :
    iprop(Rec I K ∗ slP c cc0_scratch5 (rQ (-j)) fullShare (osC I c) ∗ (∃ f, slP (F := F) (up c (-j)) cc0_scratch6 (rQ (-j)) fullShare f)
        ∗ pay c (2, -j) ∗ pay c (3, -j) ∗ ow c (left (16 + 2 * j.val)))
      ⊢ WP c (oSend c j) fun _ => iprop(due c (some (2, -j)) ∗ ow c (left (16 + 2 * j.val + 1))) := by
  unfold oSend
  have hn : up c (-j) = oDev c j := (up_neg c j).trans (oDev_eq c j hj).symm
  have hs0 := neg_ne j hj
  refine BIBase.Entails.trans ?_ (wp_sendX I K c (oDev c j) 2 3 (-j) hs0 (3, (-j)) (ckey_lt 3 (-j)) (dut_lt 3 (-j)) (by rw [dir_3]; exact hn) (2, (-j)) (ckey_lt 2 (-j)) (dut_lt 2 (-j))
    (by rw [dir_2, up_zero]) ((left_o j hj).1) ((left_o j hj).2) (credit_or (-j)) rfl (q := fullShare) (fs := osC I c)
    (Entails.of_eq (slP_slice (b := cc0_scratch5) (rQ (-j)) _ _ c _ _)) fun fd => ?_)
  · rw [hn]
    iintro ⟨HR, Hs, ⟨%fd, Hd⟩, H0, H1, HO⟩
    isplitl [HR]; · iexact HR
    isplitl [Hs]
    · iapply (Entails.of_eq (slP_slice (b := cc0_scratch5) (rQ (-j)) _ _ c _ _).symm) $$ Hs
    isplitl [Hd]
    · iexists fd
      iapply (Entails.of_eq (slP_slice (b := cc0_scratch6) (rQ (-j)) _ _ (oDev c j) _ _).symm) $$ Hd
    isplitl [H0]; · iexact H0
    isplitl [H1]; · iexact H1
    iexact HO
  · refine (Entails.of_eq (slP_slice (b := cc0_scratch6) (rQ (-j)) _ _ (oDev c j) _ _)).trans (Entails.of_eq (slP_congr _ _ _ _ _ _ ?_))
    refine copy_o (-j) (-j) fd (osC I c) (orC I (oDev c j)) fun x y => ?_
    rw [← hn]
    show oT (oPart I c (up c (-j))) (ix3 (-j) x y) = oT (oPart I (dn (up c (-j)) (-j)) (up c (-j))) (ix3 (-j) x y)
    rw [dn_up]

theorem wp_lSend (c : Dev nD) (j : Fin 8) (hj : j ≠ 0) :
    iprop(Rec I K ∗ slP c cc0_scratch7 (rL (-j)) fullShare (lsC I c) ∗ (∃ f, slP (F := F) (up c (-j)) cc0_scratch8 (rL (-j)) fullShare f)
        ∗ pay c (4, -j) ∗ pay c (5, -j) ∗ ow c (left (16 + 2 * j.val + 1)))
      ⊢ WP c (lSend c j) fun _ => iprop(due c (some (4, -j)) ∗ ow c (left (16 + 2 * (j.val + 1)))) := by
  unfold lSend
  have hn : up c (-j) = lDev c j := (up_neg c j).trans (lDev_eq c j hj).symm
  have hs0 := neg_ne j hj
  refine BIBase.Entails.trans ?_ (wp_sendX I K c (lDev c j) 4 5 (-j) hs0 (5, (-j)) (ckey_lt 5 (-j)) (dut_lt 5 (-j)) (by rw [dir_5]; exact hn) (4, (-j)) (ckey_lt 4 (-j)) (dut_lt 4 (-j))
    (by rw [dir_4, up_zero]) ((left_l j hj).1) ((left_l j hj).2) (credit_lr (-j)) rfl (q := fullShare) (fs := lsC I c)
    (Entails.of_eq (slP_slice (b := cc0_scratch7) (rL (-j)) _ _ c _ _)) fun fd => ?_)
  · rw [hn]
    iintro ⟨HR, Hs, ⟨%fd, Hd⟩, H0, H1, HO⟩
    isplitl [HR]; · iexact HR
    isplitl [Hs]
    · iapply (Entails.of_eq (slP_slice (b := cc0_scratch7) (rL (-j)) _ _ c _ _).symm) $$ Hs
    isplitl [Hd]
    · iexists fd
      iapply (Entails.of_eq (slP_slice (b := cc0_scratch8) (rL (-j)) _ _ (lDev c j) _ _).symm) $$ Hd
    isplitl [H0]; · iexact H0
    isplitl [H1]; · iexact H1
    iexact HO
  · refine (Entails.of_eq (slP_slice (b := cc0_scratch8) (rL (-j)) _ _ (lDev c j) _ _)).trans (Entails.of_eq (slP_congr _ _ _ _ _ _ ?_))
    refine copy_l (-j) (-j) fd (lsC I c) (lrC I (lDev c j)) fun x y => ?_
    rw [← hn]
    show lT (lPart I c (up c (-j))) (ix3 (-j) x y) = lT (lPart I (dn (up c (-j)) (-j)) (up c (-j))) (ix3 (-j) x y)
    rw [dn_up]

/-! ## One block -/

/-- Eight steps over a common state. -/
theorem wp_seq8' {c : Dev nD} {f : Fin 8 → PB F PUnit} (J : ℕ → sProp 𝕄)
    (h : ∀ t : Fin 8, J t.val ⊢ WP c (f t) fun _ => J (t.val + 1)) : J 0 ⊢ WP c (seq8 f) fun _ => J 8 :=
  wp_seq (h 0) fun _ => wp_seq (h 1) fun _ => wp_seq (h 2) fun _ => wp_seq (h 3) fun _ => wp_seq (h 4) fun _ => wp_seq (h 5) fun _ =>
    wp_seq (h 6) fun _ => h 7

theorem lv_q : ∀ j : Fin 8, ∀ x ∈ left (16 + 2 * j.val), lvK (some (1, j)) < lvK (ckey x) := by decide +kernel

/-- What block `j` works on. -/
def blockA (c : Dev nD) (j : Fin 8) : sProp 𝕄 :=
  iprop((due c (some (1, j)) ∗ pos0 c (some (1, j)))
    ∗ (slE (F := F) c cc0_scratch5 (rQ (-j)) (fun _ => True) ∗ slE (F := F) c cc0_scratch7 (rL (-j)) (fun _ => True))
    ∗ ((∃ f, slP (F := F) (up c (-j)) cc0_scratch6 (rQ (-j)) fullShare f) ∗ (∃ f, slP (F := F) (up c (-j)) cc0_scratch8 (rL (-j)) fullShare f))
    ∗ (pay c (2, -j) ∗ pay c (3, -j)) ∗ (pay c (4, -j) ∗ pay c (5, -j)))
/-- What it leaves. -/
def blockB (c : Dev nD) (j : Fin 8) : sProp 𝕄 :=
  iprop((slP c cc0_scratch0 (rQ j) fullShare (qC I c) ∗ semVal (kcell c (some (1, j))) 0) ∗ due c (some (2, -j)) ∗ due c (some (4, -j)))
/-- What all blocks share. -/
def blockJ (c : Dev nD) (n : ℕ) : sProp 𝕄 :=
  iprop(Rec I K ∗ ow c (left (16 + 2 * n)) ∗ whP c cc0_scratch1 fullShare (kC I c) ∗ whP c cc0_scratch2 fullShare (vC I c))

theorem wp_block (c : Dev nD) (j : Fin 8) (hj : j ≠ 0) :
    iprop(blockA c j ∗ blockJ I K c j.val) ⊢ WP c (block c j) fun _ => iprop(blockB I c j ∗ blockJ I K c (j.val + 1)) := by
  unfold blockA blockJ blockB block slE
  iintro ⟨⟨⟨Hdue, Hpos⟩, ⟨⟨%g5, %h5, H5⟩, ⟨%g7, %h7, H7⟩⟩, ⟨H6, H8⟩, ⟨P2, P3⟩, ⟨P4, P5⟩⟩, #HR, HO, Hk, Hv⟩
  unfold WP
  rw [wp_bind]
  iapply ((wp_waitX I K c 1 j hj (left (16 + 2 * j.val)) (lv_q j) (credit_q j)).trans (wp_wand _ _ _)) $$ [Hdue HO Hpos]
  · isplitr; · iexact HR
    isplitl [Hdue]; · iexact Hdue
    isplitl [HO]; · iexact HO
    iexact Hpos
  iintro %_ ⟨Hq, Hz, HO⟩
  ihave Hq := payK_1 I c j $$ Hq
  rw [wp_bind]
  iapply ((wp_seq8' (c := c) (fun n => iprop(slE c cc0_scratch5 (rQ (-j)) (okO (-j) n (oPart I c (dn c j))) ∗ slE c cc0_scratch7 (rL (-j)) (okL (-j) n (lPart I c (dn c j)))
      ∗ slP c cc0_scratch0 (rQ j) fullShare (qC I c) ∗ whP c cc0_scratch1 fullShare (kC I c) ∗ whP c cc0_scratch2 fullShare (vC I c)))
      (fun h => wp_attend I c j (-j) h fullShare (kC I c) (vC I c) (fun _ _ => rfl) (fun _ _ => rfl) (wp_putO_send c (-j) h _) (wp_putL_send c (-j) h _))).trans
      (wp_wand _ _ _)) $$ [H5 H7 Hq Hk Hv]
  · unfold slE
    isplitl [H5]
    · iexists g5; isplitr; · ipureintro; exact okO_zero _ _ _
      iexact H5
    isplitl [H7]
    · iexists g7; isplitr; · ipureintro; exact okL_zero _ _ _
      iexact H7
    isplitl [Hq]; · iexact Hq
    isplitl [Hk]; · iexact Hk
    iexact Hv
  unfold slE
  iintro %_ ⟨⟨%f5, %e5, H5⟩, ⟨%f7, %e7, H7⟩, Hq, Hk, Hv⟩
  have e5' : ∀ i ∈ (rQ (-j)).set, f5 i = osC I c i := fun i hi => by
    have h0 := (mem_rQ (-j) i).mp hi
    refine (e5 i h0 (i 2).isLt).trans ?_
    show _ = oT (oPart I c (up c (i 0))) i
    rw [h0, up_neg]
  have e7' : ∀ i ∈ (rL (-j)).set, f7 i = lsC I c i := fun i hi => by
    have h0 := (mem_rL (-j) i).mp hi
    refine (e7 i h0 (i 2).isLt).trans ?_
    show _ = lT (lPart I c (up c (i 0))) i
    rw [h0, up_neg]
  rw [wp_bind]
  iapply ((wp_oSend I K c j hj).trans (wp_wand _ _ _)) $$ [H5 H6 P2 P3 HO]
  · isplitr; · iexact HR
    isplitl [H5]
    · iapply (Entails.of_eq (slP_congr c cc0_scratch5 _ _ _ _ e5')) $$ H5
    isplitl [H6]; · iexact H6
    isplitl [P2]; · iexact P2
    isplitl [P3]; · iexact P3
    iexact HO
  iintro %_ ⟨D2, HO⟩
  iapply ((wp_lSend I K c j hj).trans (wp_wand _ _ _)) $$ [H7 H8 P4 P5 HO]
  · isplitr; · iexact HR
    isplitl [H7]
    · iapply (Entails.of_eq (slP_congr c cc0_scratch7 _ _ _ _ e7')) $$ H7
    isplitl [H8]; · iexact H8
    isplitl [P4]; · iexact P4
    isplitl [P5]; · iexact P5
    iexact HO
  iintro %_ ⟨D4, HO⟩
  isplitl [Hq Hz D2 D4]
  · isplitl [Hq Hz]
    · isplitl [Hq]; · iexact Hq
      iexact Hz
    isplitl [D2]; · iexact D2
    iexact D4
  isplitr; · iexact HR
  isplitl [HO]; · iexact HO
  isplitl [Hk]; · iexact Hk
  iexact Hv

/-! ## The sums received -/

/-- Nothing is owed any more. -/
def rest (c : Dev nD) : sProp 𝕄 := iprop(Rec I K ∗ ow c (left 32))

theorem lv_none (n : ℕ) : ∀ x ∈ left 32, n < lvK (ckey x) := fun x hx => by rw [left_all] at hx; exact absurd hx (Finset.notMem_empty x)

def recvA (c : Dev nD) (j : Fin 8) : sProp 𝕄 :=
  iprop((due (F := F) c (some (3, j)) ∗ pos0 c (some (3, j))) ∗ (due c (some (5, j)) ∗ pos0 c (some (5, j))))
def recvB (c : Dev nD) (j : Fin 8) : sProp 𝕄 :=
  iprop((slP c cc0_scratch6 (rQ j) fullShare (orC I c) ∗ slP c cc0_scratch8 (rL j) fullShare (lrC I c))
    ∗ semVal (kcell c (some (3, j))) 0 ∗ semVal (kcell c (some (5, j))) 0)

theorem wp_recvStep (c : Dev nD) (j : Fin 8) (hj : j ≠ 0) (a b : Acc F) (hb : accStep a (oSl I c j) (lSl I c j) = b) :
    iprop(recvA c j ∗ rest I K c) ⊢ WP c (recvStep j a) fun v => iprop(⌜v = b⌝ ∗ recvB I c j ∗ rest I K c) := by
  unfold recvA recvB rest recvStep olWait
  iintro ⟨⟨⟨D3, P3⟩, D5, P5⟩, #HR, HO⟩
  unfold WP
  rw [wp_bind, wp_bind]
  iapply ((wp_waitX I K c 3 j hj (left 32) (lv_none _) (credit_or j)).trans (wp_wand _ _ _)) $$ [D3 HO P3]
  · isplitr; · iexact HR
    isplitl [D3]; · iexact D3
    isplitl [HO]; · iexact HO
    iexact P3
  iintro %_ ⟨H6, Z3, HO⟩
  ihave H6 := payK_3 I c j $$ H6
  iapply ((wp_waitX I K c 5 j hj (left 32) (lv_none _) (credit_lr j)).trans (wp_wand _ _ _)) $$ [D5 HO P5]
  · isplitr; · iexact HR
    isplitl [D5]; · iexact D5
    isplitl [HO]; · iexact HO
    iexact P5
  iintro %_ ⟨H8, Z5, HO⟩
  ihave H8 := payK_5 I c j $$ H8
  rw [wp_bind]
  iapply ((wp_accLoad I c j).trans (wp_wand _ _ _)) $$ [H6 H8]
  · isplitl [H6]; · iexact H6
    iexact H8
  iintro %p ⟨%hp, H6, H8⟩
  rw [show (pure (accStep a p.1 p.2) : PB F (Acc F)) = .ret b from by rw [hp, hb]; rfl, wp_ret]
  imodintro
  isplitr; · ipureintro; rfl
  isplitr [HO]
  · isplitl [H6 H8]
    · isplitl [H6]; · iexact H6
      iexact H8
    isplitl [Z3]; · iexact Z3
    iexact Z5
  isplitr; · iexact HR
  iexact HO

/-- One step of a repetition that hands a known value on. -/
theorem wp_stepV {c : Dev nD} {α β : Type} {p : PB F α} {k : α → PB F β} {v : α} {w : β} {A B R S J J' J'' : sProp 𝕄}
    (h : iprop(A ∗ J) ⊢ WP c p fun a => iprop(⌜a = v⌝ ∗ B ∗ J')) (h' : iprop(R ∗ J') ⊢ WP c (k v) fun a => iprop(⌜a = w⌝ ∗ S ∗ J'')) :
    iprop((A ∗ R) ∗ J) ⊢ WP c (p >>= k) fun a => iprop(⌜a = w⌝ ∗ (B ∗ S) ∗ J'') := by
  refine wp_seq (M := fun a => iprop((⌜a = v⌝ ∗ B ∗ J') ∗ R)) ?_ fun a => ?_
  · refine BIBase.Entails.trans ?_ (wp_frame' h)
    iintro ⟨⟨HA, HR⟩, HJ⟩
    isplitl [HA HJ]
    · isplitl [HA] <;> iassumption
    iexact HR
  · iintro ⟨⟨%ha, HB, HJ⟩, HR⟩
    subst ha
    iapply ((wp_frame' (R := B) h').trans (wp_mono _ _ _ fun b => ?_)) $$ [HB HJ HR]
    · iintro ⟨⟨%hb, HS, HJ⟩, HB⟩
      isplitr; · ipureintro; exact hb
      isplitr [HJ]
      · isplitl [HB] <;> iassumption
      iexact HJ
    · isplitr [HB]
      · isplitl [HR] <;> iassumption
      iexact HB

theorem wp_recvs (c : Dev nD) :
    iprop(((slP c cc0_scratch6 (rQ 0) fullShare (orC I c) ∗ slP c cc0_scratch8 (rL 0) fullShare (lrC I c)) ∗ bigSep T7 (recvA c)) ∗ rest I K c)
      ⊢ WP c recvs fun a => iprop(⌜a = accN I c 7⌝
          ∗ ((slP c cc0_scratch6 (rQ 0) fullShare (orC I c) ∗ slP c cc0_scratch8 (rL 0) fullShare (lrC I c)) ∗ bigSep T7 (recvB I c)) ∗ rest I K c) := by
  rw [bigSep_T7, bigSep_T7]
  have h0 : iprop((slP c cc0_scratch6 (rQ 0) fullShare (orC I c) ∗ slP c cc0_scratch8 (rL 0) fullShare (lrC I c)) ∗ rest I K c)
      ⊢ WP c (accLoad 0) fun p => iprop(⌜p = (oSl I c 0, lSl I c 0)⌝
        ∗ (slP c cc0_scratch6 (rQ 0) fullShare (orC I c) ∗ slP c cc0_scratch8 (rL 0) fullShare (lrC I c)) ∗ rest I K c) := by
    refine (wp_frame' (wp_accLoad I c 0)).trans (wp_mono _ _ _ fun p => ?_)
    iintro ⟨⟨%hp, H⟩, HJ⟩
    isplitr; · ipureintro; exact hp
    isplitl [H] <;> iassumption
  exact wp_stepV h0 (wp_stepV (wp_recvStep I K c 1 (by decide) _ (accN I c 1) rfl) (wp_stepV (wp_recvStep I K c 2 (by decide) _ (accN I c 2) rfl)
    (wp_stepV (wp_recvStep I K c 3 (by decide) _ (accN I c 3) rfl) (wp_stepV (wp_recvStep I K c 4 (by decide) _ (accN I c 4) rfl)
    (wp_stepV (wp_recvStep I K c 5 (by decide) _ (accN I c 5) rfl) (wp_stepV (wp_recvStep I K c 6 (by decide) _ (accN I c 6) rfl)
      (wp_recvStep I K c 7 (by decide) _ (accN I c 7) rfl)))))))

/-! ## What was sent has left -/

theorem wp_qLeft (c : Dev nD) (t : Fin 8) (ht : t ≠ 0) :
    iprop((due c (some (0, t)) ∗ pos0 c (some (0, t))) ∗ rest I K c)
      ⊢ WP c (qLeft t) fun _ => iprop((slP c cc0_scratch0 (rQ 0) (qTok t) (qC I c) ∗ semVal (kcell c (some (0, t))) 0) ∗ rest I K c) := by
  unfold rest qLeft
  iintro ⟨⟨D, P⟩, #HR, HO⟩
  unfold WP
  iapply ((wp_waitX I K c 0 t ht (left 32) (lv_none _) (credit_q 0)).trans (wp_wand _ _ _)) $$ [D HO P]
  · isplitr; · iexact HR
    isplitl [D]; · iexact D
    isplitl [HO]; · iexact HO
    iexact P
  iintro %_ ⟨H, Z, HO⟩
  ihave H := payK_0 I c t $$ H
  isplitl [H Z]
  · isplitl [H]; · iexact H
    iexact Z
  isplitr; · iexact HR
  iexact HO

def olA (c : Dev nD) (j : Fin 8) : sProp 𝕄 :=
  iprop((due (F := F) c (some (2, -j)) ∗ pos0 c (some (2, -j))) ∗ (due c (some (4, -j)) ∗ pos0 c (some (4, -j))))
def olB (c : Dev nD) (j : Fin 8) : sProp 𝕄 :=
  iprop((slP c cc0_scratch5 (rQ (-j)) fullShare (osC I c) ∗ semVal (kcell c (some (2, -j))) 0)
    ∗ (slP c cc0_scratch7 (rL (-j)) fullShare (lsC I c) ∗ semVal (kcell c (some (4, -j))) 0))

theorem wp_olLeft (c : Dev nD) (j : Fin 8) (hj : j ≠ 0) :
    iprop(olA c j ∗ rest I K c) ⊢ WP c (olLeft j) fun _ => iprop(olB I c j ∗ rest I K c) := by
  unfold olA olB rest olLeft
  iintro ⟨⟨⟨D2, P2⟩, D4, P4⟩, #HR, HO⟩
  unfold WP
  rw [wp_bind]
  iapply ((wp_waitX I K c 2 (-j) (neg_ne j hj) (left 32) (lv_none _) (credit_os _)).trans (wp_wand _ _ _)) $$ [D2 HO P2]
  · isplitr; · iexact HR
    isplitl [D2]; · iexact D2
    isplitl [HO]; · iexact HO
    iexact P2
  iintro %_ ⟨H5, Z2, HO⟩
  ihave H5 := payK_2 I c (-j) $$ H5
  iapply ((wp_waitX I K c 4 (-j) (neg_ne j hj) (left 32) (lv_none _) (credit_ls _)).trans (wp_wand _ _ _)) $$ [D4 HO P4]
  · isplitr; · iexact HR
    isplitl [D4]; · iexact D4
    isplitl [HO]; · iexact HO
    iexact P4
  iintro %_ ⟨H7, Z4, HO⟩
  ihave H7 := payK_4 I c (-j) $$ H7
  isplitr [HO]
  · isplitl [H5 Z2]
    · isplitl [H5]; · iexact H5
      iexact Z2
    isplitl [H7]; · iexact H7
    iexact Z4
  isplitr; · iexact HR
  iexact HO

end Cert.KernelIdeal.Pf
-- ==== Proof.KernelIdeal.Head.lean ====
/- The first block: while one head is served, the copies of the head after the next are on their way. -/
module

public import proofs.«01_k».proof.Proof.KernelIdeal.Talk

@[expose] public section

set_option synthInstance.maxSize 4096

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop Flight)

variable {F : FTy → Type} [FloatOps F]

local notation "𝕄" => MT nD τ sig Unit (Elt F) ℕ UU ℕ

variable (I : Inp F) (K : Dev nD × Key → ℕ)

/-! ## The staging slots over time -/

/-- The copy that staging slot `n % 2` waits for before head `n`, or, past the last head, an idle slot. -/
def stage (c : Dev nD) (M : Memref sig .tc .hbm S1x4096x8x128 .f32) (T : Memref sig .tc .vmem S2x4096x128 .f32) (A : DmaSems sig S2)
    (fs : Buf (Elt F) (M.view.loc (c : Thread nD τ))) (n : ℕ) : sProp 𝕄 :=
  if h : n < 8 then flight c M T A fs ⟨n, h⟩ else idle c T A ⟨n % 2, Nat.mod_lt _ (by decide)⟩

theorem stage_lt (c : Dev nD) (M : Memref sig .tc .hbm S1x4096x8x128 .f32) (T : Memref sig .tc .vmem S2x4096x128 .f32) (A : DmaSems sig S2)
    (fs : Buf (Elt F) (M.view.loc (c : Thread nD τ))) (h : Fin 8) : stage c M T A fs h.val = flight c M T A fs h := dif_pos h.isLt
theorem stage_ge (c : Dev nD) (M : Memref sig .tc .hbm S1x4096x8x128 .f32) (T : Memref sig .tc .vmem S2x4096x128 .f32) (A : DmaSems sig S2)
    (fs : Buf (Elt F) (M.view.loc (c : Thread nD τ))) (n : ℕ) (h : 8 ≤ n) :
    stage c M T A fs n = idle c T A ⟨n % 2, Nat.mod_lt _ (by decide)⟩ := dif_neg (by omega)

/-- Both staging slots of head `n`. -/
def stages (c : Dev nD) (n : ℕ) : sProp 𝕄 :=
  iprop(stage c kIn ktmp cc0_scratch16 (I.k c) n ∗ stage c vIn vtmp cc0_scratch17 (I.v c) n)
/-- Head `h` of the keys and of the values. -/
def source (c : Dev nD) (h : Fin 8) : sProp 𝕄 := iprop(inP c kIn (I.k c) h ∗ inP c vIn (I.v c) h)
/-- Both staging slots of one parity idle. -/
def idles (c : Dev nD) (σ : Fin 2) : sProp 𝕄 := iprop(idle (F := F) c ktmp cc0_scratch16 σ ∗ idle c vtmp cc0_scratch17 σ)
/-- What is started at head `h` reads. -/
def sourceNext (c : Dev nD) (h : Fin 8) : sProp 𝕄 := if h.val < 6 then source I c (h + 2) else iprop(emp)

theorem wp_kvStart (c : Dev nD) (h : Fin 8) :
    iprop(idles c (par h) ∗ source I c h) ⊢ WP c (kvStart h) fun _ => stages I c h.val := by
  unfold idles source stages kvStart
  rw [stage_lt, stage_lt]
  iintro ⟨⟨Hk, Hv⟩, Sk, Sv⟩
  unfold WP
  rw [wp_bind]
  iapply ((wp_kvOp c kIn ktmp cc0_scratch16 (I.k c) h).trans (wp_wand _ _ _)) $$ [Hk Sk]
  · isplitl [Hk] <;> iassumption
  iintro %_ Hk
  iapply ((wp_kvOp c vIn vtmp cc0_scratch17 (I.v c) h).trans (wp_wand _ _ _)) $$ [Hv Sv]
  · isplitl [Hv] <;> iassumption
  iintro %_ Hv
  isplitl [Hk] <;> iassumption

theorem par_next : ∀ h : Fin 8, h.val < 6 → par (h + 2) = par h ∧ (h + 2 : Fin 8).val = h.val + 2 := by decide

theorem wp_nextKv (c : Dev nD) (h : Fin 8) :
    iprop(idles c (par h) ∗ sourceNext I c h) ⊢ WP c (nextKv h) fun _ => stages I c (h.val + 2) := by
  unfold nextKv sourceNext
  by_cases hh : h.val < 6
  · rw [if_pos hh, if_pos hh, ← (par_next h hh).1, ← (par_next h hh).2]
    exact wp_kvStart I c (h + 2)
  · rw [if_neg hh, if_neg hh]
    unfold stages idles
    rw [stage_ge _ _ _ _ _ _ (by omega), stage_ge _ _ _ _ _ _ (by omega)]
    have e : (⟨(h.val + 2) % 2, Nat.mod_lt _ (by decide)⟩ : Fin 2) = par h := Fin.ext (by show (h.val + 2) % 2 = h.val % 2; omega)
    rw [e]
    iintro ⟨H, -⟩
    unfold WP
    rw [show (pure ⟨⟩ : PB F PUnit) = .ret ⟨⟩ from rfl, wp_ret]
    imodintro
    iexact H

/-! ## One head -/

theorem local_K : ∀ σ : Fin 2, (dec (.dma (sem2 cc0_scratch16 σ))).elim 0 lvK = 0 := by decide
theorem local_V : ∀ σ : Fin 2, (dec (.dma (sem2 cc0_scratch17 σ))).elim 0 lvK = 0 := by decide
theorem lv_local : ∀ x ∈ left 16, 0 < lvK (ckey x) := by decide +kernel

/-- The state before head `n` of the first block. -/
def headJ (c : Dev nD) (q : PosShare TreeShare) (n : ℕ) : sProp 𝕄 :=
  iprop((Rec I K ∗ ow c (left 16)) ∗ (stages I c n ∗ stages I c (n + 1))
    ∗ (whE c cc0_scratch1 (okK n (kC I c)) ∗ whE c cc0_scratch2 (okK n (vC I c)))
    ∗ slE c cc0_scratch6 (rQ 0) (okO 0 n (oPart I c (dn c 0))) ∗ slE c cc0_scratch8 (rL 0) (okL 0 n (lPart I c (dn c 0)))
    ∗ slP c cc0_scratch0 (rQ 0) q (qC I c))

theorem wp_head (c : Dev nD) (q : PosShare TreeShare) (h : Fin 8) :
    iprop(sourceNext I c h ∗ headJ I K c q h.val) ⊢ WP c (head h (nextKv h)) fun _ => iprop(source I c h ∗ headJ I K c q (h.val + 1)) := by
  unfold headJ head
  rw [show stages I c h.val = iprop(flight c kIn ktmp cc0_scratch16 (I.k c) h ∗ flight c vIn vtmp cc0_scratch17 (I.v c) h) from by
    unfold stages; rw [stage_lt, stage_lt]]
  iintro ⟨HA, ⟨#HR, HO⟩, ⟨⟨Fk, Fv⟩, S1⟩, ⟨Hk, Hv⟩, H6, H8, Hq⟩
  unfold WP
  rw [wp_bind]
  iapply ((wp_kvWait I K c kIn ktmp cc0_scratch16 (I.k c) h local_K (left 16) lv_local).trans (wp_wand _ _ _)) $$ [Fk HO]
  · isplitr; · iexact HR
    isplitl [Fk]; · iexact Fk
    iexact HO
  iintro %_ ⟨Lk, Zk, Ik, HO⟩
  rw [wp_bind]
  iapply ((wp_kvWait I K c vIn vtmp cc0_scratch17 (I.v c) h local_V (left 16) lv_local).trans (wp_wand _ _ _)) $$ [Fv HO]
  · isplitr; · iexact HR
    isplitl [Fv]; · iexact Fv
    iexact HO
  iintro %_ ⟨Lv, Zv, Iv, HO⟩
  rw [wp_bind]
  iapply ((wp_convK I c h).trans (wp_wand _ _ _)) $$ [Lk Hk]
  · isplitl [Lk] <;> iassumption
  iintro %_ ⟨Tk, Hk⟩
  rw [wp_bind]
  iapply ((wp_convV I c h).trans (wp_wand _ _ _)) $$ [Lv Hv]
  · isplitl [Lv] <;> iassumption
  iintro %_ ⟨Tv, Hv⟩
  rw [wp_bind]
  iapply ((wp_nextKv I c h).trans (wp_wand _ _ _)) $$ [Tk Zk Tv Zv HA]
  · isplitr [HA]
    · unfold idles idle
      isplitl [Tk Zk]
      · isplitl [Tk] <;> iassumption
      isplitl [Tv] <;> iassumption
    iexact HA
  iintro %_ S2
  unfold whE
  icases Hk with ⟨%gk, %hk, Hk⟩
  icases Hv with ⟨%gv, %hv, Hv⟩
  have hk' : ∀ i, (i 0 : Fin 8) = h → gk i = kC I c i := fun i hi => hk i (by rw [hi]; omega)
  have hv' : ∀ i, (i 0 : Fin 8) = h → gv i = vC I c i := fun i hi => hv i (by rw [hi]; omega)
  iapply ((wp_attend I c 0 0 h q gk gv hk' hv' (wp_putO_recv c 0 h _) (wp_putL_recv c 0 h _)).trans (wp_wand _ _ _)) $$ [H6 H8 Hq Hk Hv]
  · isplitl [H6]; · iexact H6
    isplitl [H8]; · iexact H8
    isplitl [Hq]; · iexact Hq
    isplitl [Hk] <;> iassumption
  iintro %_ ⟨H6, H8, Hq, Hk, Hv⟩
  isplitl [Ik Iv]
  · unfold source; isplitl [Ik] <;> iassumption
  isplitl [HO]
  · isplitr; · iexact HR
    iexact HO
  isplitl [S1 S2]
  · isplitl [S1]; · iexact S1
    iexact S2
  isplitl [Hk Hv]
  · isplitl [Hk]
    · iexists gk; isplitr; · ipureintro; exact hk
      iexact Hk
    iexists gv; isplitr; · ipureintro; exact hv
    iexact Hv
  isplitl [H6]; · iexact H6
  isplitl [H8]; · iexact H8
  iexact Hq

/-- The whole first block. -/
theorem wp_heads (c : Dev nD) (q : PosShare TreeShare) :
    iprop(bigSep Finset.univ (sourceNext I c) ∗ headJ I K c q 0)
      ⊢ WP c (seq8 fun h => head h (nextKv h)) fun _ => iprop(bigSep Finset.univ (source I c) ∗ headJ I K c q 8) :=
  wp_seq8 (sourceNext I c) (source I c) (headJ I K c q) (wp_head I K c q)

/-- The sources of what is started at the heads are the heads from the third on. -/
theorem sources_split (c : Dev nD) :
    bigSep Finset.univ (source I c) ⊢ iprop(source I c 0 ∗ source I c 1 ∗ bigSep Finset.univ (sourceNext I c)) := by
  rw [bigSep_8, bigSep_8]
  have e : ∀ h : Fin 8, h.val < 6 → sourceNext I c h = source I c (h + 2) := fun h hh => if_pos hh
  have e' : ∀ h : Fin 8, ¬ h.val < 6 → sourceNext I c h = iprop(emp) := fun h hh => if_neg hh
  rw [e 0 (by decide), e 1 (by decide), e 2 (by decide), e 3 (by decide), e 4 (by decide), e 5 (by decide), e' 6 (by decide), e' 7 (by decide)]
  iintro ⟨H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitr <;> iempintro

end Cert.KernelIdeal.Pf
-- ==== Proof.KernelIdeal.Flow.lean ====
/- The whole body, over the slots of the buffers. -/
module

public import proofs.«01_k».proof.Proof.KernelIdeal.Head

@[expose] public section

set_option synthInstance.maxSize 4096

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop Flight)

variable {F : FTy → Type} [FloatOps F]

local notation "𝕄" => MT nD τ sig Unit (Elt F) ℕ UU ℕ

variable (I : Inp F) (K : Dev nD × Key → ℕ)

/-- Two families over the same offsets, joined. -/
theorem zip7 {Φ Ψ : Fin 8 → sProp 𝕄} : iprop(bigSep T7 Φ ∗ bigSep T7 Ψ) ⊢ bigSep T7 fun t => iprop(Φ t ∗ Ψ t) :=
  Entails.of_eq (bigSep_sep' T7 Φ Ψ).symm
theorem unzip7 {Φ Ψ : Fin 8 → sProp 𝕄} : (bigSep T7 fun t => iprop(Φ t ∗ Ψ t)) ⊢ iprop(bigSep T7 Φ ∗ bigSep T7 Ψ) :=
  Entails.of_eq (bigSep_sep' T7 Φ Ψ)
/-- A family over the offsets, read at the opposite ones. -/
theorem turn7 {Φ : Fin 8 → sProp 𝕄} : bigSep T7 Φ ⊢ bigSep T7 fun t => Φ (-t) := Entails.of_eq (bigSep_T7_neg Φ)
theorem unturn7 {Φ : Fin 8 → sProp 𝕄} : (bigSep T7 fun t => Φ (-t)) ⊢ bigSep T7 Φ := Entails.of_eq (bigSep_T7_neg Φ).symm

/-! ## The start of the conversation -/

theorem left_8 : left 8 = left 9 := by decide +kernel

/-- The slots the seven others may write, and the units to their barriers. -/
theorem wp_sigs (c : Dev nD) :
    iprop((bigSep T7 (window (F := F) c) ∗ bigSep T7 fun t => pay (F := F) c (6, t)) ∗ Rec I K ∗ ow c (left 1))
      ⊢ WP c (seq7 (sigOp c)) fun _ => iprop(Rec I K ∗ ow c (left 8)) := by
  refine BIBase.Entails.trans ?_ ((wp_seq7 (c := c) (f := sigOp c) (fun t => iprop(window (F := F) c (-t) ∗ pay c (6, t))) (fun _ => iprop(emp))
    (fun n => iprop(Rec I K ∗ ow c (left n))) fun t ht => ?_).trans (wp_mono _ _ _ fun _ => ?_))
  · iintro ⟨⟨HW, HP⟩, HJ⟩
    isplitr [HJ]
    · iapply zip7
      isplitl [HW]
      · iapply (turn7 (Φ := window (F := F) c)) $$ HW
      iexact HP
    iexact HJ
  · iintro ⟨⟨Hw, Hp⟩, #HR, HO⟩
    unfold WP
    iapply ((wp_sig I K c t ht).trans (wp_wand _ _ _)) $$ [Hw Hp HO]
    · isplitr; · iexact HR
      isplitl [Hw]; · iexact Hw
      isplitl [Hp]; · iexact Hp
      iexact HO
    iintro %_ HO
    isplitr; · iempintro
    isplitr; · iexact HR
    iexact HO
  · iintro ⟨-, HJ⟩; iexact HJ

/-- The queries to the seven others. -/
theorem wp_qSends (c : Dev nD) :
    iprop((bigSep T7 (fun t => slP c cc0_scratch0 (rQ 0) (qTok t) (qC I c)) ∗ bigSep T7 (fun t => iprop(∃ f, slP (F := F) (up c t) cc0_scratch0 (rQ t) fullShare f))
        ∗ bigSep T7 (fun t => pay (F := F) c (0, t)) ∗ bigSep T7 (fun t => pay (F := F) c (1, t))) ∗ Rec I K ∗ ow c (left 8))
      ⊢ WP c (seq7 (qSend c)) fun _ => iprop(bigSep T7 (fun t => due (F := F) c (some (0, t))) ∗ Rec I K ∗ ow c (left 16)) := by
  rw [left_8]
  refine BIBase.Entails.trans ?_ (wp_seq7 (c := c) (f := qSend c) (fun t => iprop(slP c cc0_scratch0 (rQ 0) (qTok t) (qC I c)
      ∗ (∃ f, slP (F := F) (up c t) cc0_scratch0 (rQ t) fullShare f) ∗ pay c (0, t) ∗ pay c (1, t))) (fun t => due c (some (0, t)))
    (fun n => iprop(Rec I K ∗ ow c (left (8 + n)))) fun t ht => ?_)
  · iintro ⟨⟨H0, H1, H2, H3⟩, HJ⟩
    isplitr [HJ]
    · iapply zip7
      isplitl [H0]; · iexact H0
      iapply zip7
      isplitl [H1]; · iexact H1
      iapply zip7
      isplitl [H2]; · iexact H2
      iexact H3
    iexact HJ
  · iintro ⟨⟨Hs, Hd, H0, H1⟩, #HR, HO⟩
    unfold WP
    iapply ((wp_qSend I K c t ht).trans (wp_wand _ _ _)) $$ [Hs Hd H0 H1 HO]
    · isplitr; · iexact HR
      isplitl [Hs]; · iexact Hs
      isplitl [Hd]; · iexact Hd
      isplitl [H0]; · iexact H0
      isplitl [H1]; · iexact H1
      iexact HO
    iintro %_ ⟨HD, HO⟩
    isplitl [HD]; · iexact HD
    isplitr; · iexact HR
    iexact HO

/-! ## Slot 0 -/

theorem slot0_o (c : Dev nD) : slE c cc0_scratch6 (rQ 0) (okO 0 8 (oPart I c (dn c 0))) ⊢ slP c cc0_scratch6 (rQ 0) fullShare (orC I c) := by
  unfold slE
  iintro ⟨%g, %hg, H⟩
  have e : ∀ i ∈ (rQ 0).set, g i = orC I c i := fun i hi => by
    have h0 := (mem_rQ 0 i).mp hi
    refine (hg i h0 (i 2).isLt).trans ?_
    show _ = oT (oPart I (dn c (i 0)) c) i
    rw [h0, dn_zero]
  iapply (Entails.of_eq (slP_congr c cc0_scratch6 _ _ _ _ e)) $$ H
theorem slot0_l (c : Dev nD) : slE c cc0_scratch8 (rL 0) (okL 0 8 (lPart I c (dn c 0))) ⊢ slP c cc0_scratch8 (rL 0) fullShare (lrC I c) := by
  unfold slE
  iintro ⟨%g, %hg, H⟩
  have e : ∀ i ∈ (rL 0).set, g i = lrC I c i := fun i hi => by
    have h0 := (mem_rL 0 i).mp hi
    refine (hg i h0 (i 2).isLt).trans ?_
    show _ = lT (lPart I (dn c (i 0)) c) i
    rw [h0, dn_zero]
  iapply (Entails.of_eq (slP_congr c cc0_scratch8 _ _ _ _ e)) $$ H

/-- The queries' slot 0: what stays with the device, and a share for each transfer. -/
theorem slot0_split (c : Dev nD) : slP c cc0_scratch0 (rQ 0) fullShare (qC I c)
    ⊢ iprop(slP c cc0_scratch0 (rQ 0) (shareDrop fullShare 8) (qC I c) ∗ slP c cc0_scratch0 (rQ 0) (qTok 0) (qC I c)
        ∗ bigSep T7 fun t => slP c cc0_scratch0 (rQ 0) (qTok t) (qC I c)) := by
  rw [← bigSep_slot0 fun t => slP c cc0_scratch0 (rQ 0) (qTok t) (qC I c)]
  unfold slP
  exact Transfers.pointsTo_toks_split fullShare 8
theorem slot0_join (c : Dev nD) : iprop(slP c cc0_scratch0 (rQ 0) (shareDrop fullShare 8) (qC I c) ∗ slP c cc0_scratch0 (rQ 0) (qTok 0) (qC I c)
        ∗ bigSep T7 fun t => slP c cc0_scratch0 (rQ 0) (qTok t) (qC I c))
    ⊢ slP c cc0_scratch0 (rQ 0) fullShare (qC I c) := by
  rw [← bigSep_slot0 fun t => slP c cc0_scratch0 (rQ 0) (qTok t) (qC I c)]
  unfold slP
  exact Transfers.pointsTo_toks_join fullShare 8

theorem stages_8 (c : Dev nD) : stages I c 8 ⊢ idles c 0 := by
  unfold stages idles
  rw [stage_ge _ _ _ _ _ _ (by omega), stage_ge _ _ _ _ _ _ (by omega)]
  exact .rfl
theorem stages_9 (c : Dev nD) : stages I c 9 ⊢ idles c 1 := by
  unfold stages idles
  rw [stage_ge _ _ _ _ _ _ (by omega), stage_ge _ _ _ _ _ _ (by omega)]
  exact .rfl

theorem whole_k (c : Dev nD) : whE c cc0_scratch1 (okK 8 (kC I c)) ⊢ whP c cc0_scratch1 fullShare (kC I c) := by
  unfold whE
  iintro ⟨%g, %hg, H⟩
  rw [okK_eight _ _ hg]
  iexact H
theorem whole_v (c : Dev nD) : whE c cc0_scratch2 (okK 8 (vC I c)) ⊢ whP c cc0_scratch2 fullShare (vC I c) := by
  unfold whE
  iintro ⟨%g, %hg, H⟩
  rw [okK_eight _ _ hg]
  iexact H
theorem whole_a (c : Dev nD) (a : Acc F) : whE c cc0_scratch9 (okA 8 (attOf a)) ⊢ whP c cc0_scratch9 fullShare (attOf a) := by
  unfold whE
  iintro ⟨%g, %hg, H⟩
  rw [okA_eight _ _ hg]
  iexact H

/-! ## The body -/

/-- Kind `a` of the transfers, over the seven other devices: each transfer at its first round; below, what is due to it,
    what it pays, and its semaphores at zero. -/
def posT (c : Dev nD) (a : Fin 6) : sProp 𝕄 := bigSep T7 fun t => pos0 (F := F) c (some (a, t))
def dueT (c : Dev nD) (a : Fin 6) : sProp 𝕄 := bigSep T7 fun t => due (F := F) c (some (a, t))
def payT (c : Dev nD) (a : Fin 7) : sProp 𝕄 := bigSep T7 fun t => pay (F := F) c (a, t)
def semT (c : Dev nD) (a : Fin 6) : sProp 𝕄 := bigSep T7 fun t => (semVal (kcell c (some (a, t))) 0 : sProp 𝕄)

/-- What the body starts from. -/
def startS (c : Dev nD) (q₀ q₁ q₂ : PosShare TreeShare) : sProp 𝕄 :=
  iprop((Rec I K ∗ ow c (left 1))
    ∗ (whP c cc0_stg0_0 q₀ (I.x c) ∗ whP c cc0_stg1_0 q₁ (I.wq c) ∗ whP c cc0_stg2_0 q₂ (I.wo c) ∗ whE c cc0_stg3_0 (fun _ => True))
    ∗ bigSep Finset.univ (source I c) ∗ (idles c 0 ∗ idles c 1)
    ∗ (whE c cc0_scratch1 (fun _ => True) ∗ whE c cc0_scratch2 (fun _ => True) ∗ whE c cc0_scratch9 (fun _ => True))
    ∗ (slE c cc0_scratch0 (rQ 0) (fun _ => True) ∗ slE c cc0_scratch6 (rQ 0) (fun _ => True) ∗ slE c cc0_scratch8 (rL 0) (fun _ => True))
    ∗ (bigSep T7 (window (F := F) c) ∗ bigSep T7 (fun t => slE (F := F) c cc0_scratch5 (rQ t) (fun _ => True))
      ∗ bigSep T7 (fun t => slE (F := F) c cc0_scratch7 (rL t) (fun _ => True)))
    ∗ (cred (tallyAt (kcell c none) () 7) ∗ pos0 c none)
    ∗ (posT c 0 ∗ posT c 1 ∗ posT c 2 ∗ posT c 3 ∗ posT c 4 ∗ posT c 5) ∗ (dueT c 1 ∗ dueT c 3 ∗ dueT c 5)
    ∗ payT c 0 ∗ payT c 1 ∗ payT c 2 ∗ payT c 3 ∗ payT c 4 ∗ payT c 5 ∗ payT c 6)

/-- What it ends with. -/
def endS (c : Dev nD) (q₀ q₁ q₂ : PosShare TreeShare) : sProp 𝕄 :=
  iprop(rest I K c
    ∗ (whP c cc0_stg0_0 q₀ (I.x c) ∗ whP c cc0_stg1_0 q₁ (I.wq c) ∗ whP c cc0_stg2_0 q₂ (I.wo c) ∗ whP c cc0_stg3_0 fullShare (outAt I c))
    ∗ bigSep Finset.univ (source I c) ∗ (idles c 0 ∗ idles c 1)
    ∗ (whP c cc0_scratch1 fullShare (kC I c) ∗ whP c cc0_scratch2 fullShare (vC I c) ∗ whP c cc0_scratch9 fullShare (attOf (accN I c 7)))
    ∗ (slP c cc0_scratch0 (rQ 0) fullShare (qC I c) ∗ slP c cc0_scratch6 (rQ 0) fullShare (orC I c) ∗ slP c cc0_scratch8 (rL 0) fullShare (lrC I c))
    ∗ (bigSep T7 (fun t => slP c cc0_scratch0 (rQ t) fullShare (qC I c)) ∗ bigSep T7 (fun t => slP c cc0_scratch6 (rQ t) fullShare (orC I c))
      ∗ bigSep T7 (fun t => slP c cc0_scratch8 (rL t) fullShare (lrC I c)) ∗ bigSep T7 (fun t => slP c cc0_scratch5 (rQ t) fullShare (osC I c))
      ∗ bigSep T7 (fun t => slP c cc0_scratch7 (rL t) fullShare (lsC I c)))
    ∗ semVal (kcell c none) 0 ∗ semT c 0 ∗ semT c 1 ∗ semT c 2 ∗ semT c 3 ∗ semT c 4 ∗ semT c 5)

theorem wp_flatAt (c : Dev nD) (q₀ q₁ q₂ : PosShare TreeShare) :
    startS I K c q₀ q₁ q₂ ⊢ WP c (flatAt (Memref.whole cc0_stg0_0) (Memref.whole cc0_stg1_0) (Memref.whole cc0_stg2_0) (Memref.whole cc0_stg3_0) c)
      fun _ => endS I K c q₀ q₁ q₂ := by
  unfold startS flatAt posT dueT payT
  iintro ⟨⟨#HR, HO⟩, ⟨W0, W1, W2, W3⟩, HS, ⟨T0, T1⟩, ⟨B1, B2, B9⟩, ⟨Q0, O0, L0⟩, ⟨HW, S5, S7⟩, ⟨CB, PB⟩, ⟨P0, P1, P2, P3, P4, P5⟩, ⟨D1, D3, D5⟩, Y0, Y1, Y2, Y3, Y4, Y5, Y6⟩
  unfold WP
  -- the units to the other barriers
  rw [wp_bind]
  iapply ((wp_sigs I K c).trans (wp_wand _ _ _)) $$ [HW Y6 HO]
  · isplitl [HW Y6]
    · isplitl [HW] <;> iassumption
    isplitr; · iexact HR
    iexact HO
  iintro %_ ⟨-, HO⟩
  -- the copies of the first two heads
  ihave HS := sources_split I c $$ HS
  icases HS with ⟨S0, S1, SN⟩
  rw [wp_bind]
  iapply ((wp_kvStart I c 0).trans (wp_wand _ _ _)) $$ [T0 S0]
  · isplitl [T0]; · iexact T0
    iexact S0
  iintro %_ G0
  rw [wp_bind]
  iapply ((wp_kvStart I c 1).trans (wp_wand _ _ _)) $$ [T1 S1]
  · isplitl [T1]; · iexact T1
    iexact S1
  iintro %_ G1
  -- the queries
  rw [wp_bind]
  iapply ((wp_queries I c q₀ q₁).trans (wp_wand _ _ _)) $$ [W0 W1 Q0]
  · isplitl [W0]; · iexact W0
    isplitl [W1]; · iexact W1
    iexact Q0
  iintro %_ ⟨W0, W1, Q0⟩
  ihave Q0 := slot0_split I c $$ Q0
  icases Q0 with ⟨Q0, QT, Qs⟩
  -- the barrier
  rw [wp_bind]
  iapply ((wp_bar I K c).trans (wp_wand _ _ _)) $$ [CB HO PB]
  · isplitr; · iexact HR
    isplitl [CB]; · iexact CB
    isplitl [HO]; · iexact HO
    iexact PB
  unfold window
  iintro %_ ⟨HW, ZB, HO⟩
  ihave HW := unzip7 $$ HW
  icases HW with ⟨WQ, HW⟩
  ihave HW := unzip7 $$ HW
  icases HW with ⟨WO, WL⟩
  -- the queries sent
  rw [wp_bind]
  iapply ((wp_qSends I K c).trans (wp_wand _ _ _)) $$ [Qs WQ Y0 Y1 HO]
  · isplitr [HO]
    · isplitl [Qs]; · iexact Qs
      isplitl [WQ]; · iexact WQ
      isplitl [Y0]; · iexact Y0
      iexact Y1
    isplitr; · iexact HR
    iexact HO
  iintro %_ ⟨D0, -, HO⟩
  -- the first block
  rw [wp_bind]
  iapply ((wp_heads I K c (shareDrop fullShare 8)).trans (wp_wand _ _ _)) $$ [SN HO G0 G1 B1 B2 O0 L0 Q0]
  · isplitl [SN]; · iexact SN
    unfold headJ whE slE
    isplitl [HO]
    · isplitr; · iexact HR
      iexact HO
    isplitl [G0 G1]
    · isplitl [G0]; · iexact G0
      iexact G1
    isplitl [B1 B2]
    · isplitl [B1]
      · icases B1 with ⟨%g, -, B1⟩
        iexists g; isplitr; · ipureintro; exact okK_zero _ _
        iexact B1
      icases B2 with ⟨%g, -, B2⟩
      iexists g; isplitr; · ipureintro; exact okK_zero _ _
      iexact B2
    isplitl [O0]
    · icases O0 with ⟨%g, -, O0⟩
      iexists g; isplitr; · ipureintro; exact okO_zero _ _ _
      iexact O0
    isplitl [L0]
    · icases L0 with ⟨%g, -, L0⟩
      iexists g; isplitr; · ipureintro; exact okL_zero _ _ _
      iexact L0
    iexact Q0
  unfold headJ
  iintro %_ ⟨HS, ⟨-, HO⟩, ⟨G0, G1⟩, ⟨B1, B2⟩, O0, L0, Q0⟩
  ihave T0 := stages_8 I c $$ G0
  ihave T1 := stages_9 I c $$ G1
  ihave B1 := whole_k I c $$ B1
  ihave B2 := whole_v I c $$ B2
  ihave O0 := slot0_o I c $$ O0
  ihave L0 := slot0_l I c $$ L0
  -- the other blocks
  rw [wp_bind]
  iapply ((wp_seq7 (c := c) (f := block c) (blockA c) (blockB I c) (blockJ I K c) fun j hj => wp_block I K c j hj).trans (wp_wand _ _ _)) $$ [D1 P1 S5 S7 WO WL Y2 Y3 Y4 Y5 HO B1 B2]
  · isplitr [HO B1 B2]
    · unfold blockA
      iapply zip7
      isplitl [D1 P1]
      · iapply zip7
        isplitl [D1] <;> iassumption
      iapply zip7
      isplitl [S5 S7]
      · iapply zip7
        isplitl [S5]
        · iapply (turn7 (Φ := fun t => slE (F := F) c cc0_scratch5 (rQ t) fun _ => True)) $$ S5
        iapply (turn7 (Φ := fun t => slE (F := F) c cc0_scratch7 (rL t) fun _ => True)) $$ S7
      iapply zip7
      isplitl [WO WL]
      · iapply zip7
        isplitl [WO]
        · iapply (turn7 (Φ := fun t => iprop(∃ f, slP (F := F) (up c t) cc0_scratch6 (rQ t) fullShare f))) $$ WO
        iapply (turn7 (Φ := fun t => iprop(∃ f, slP (F := F) (up c t) cc0_scratch8 (rL t) fullShare f))) $$ WL
      iapply zip7
      isplitl [Y2 Y3]
      · iapply zip7
        isplitl [Y2]
        · iapply (turn7 (Φ := fun t => pay (F := F) c (2, t))) $$ Y2
        iapply (turn7 (Φ := fun t => pay (F := F) c (3, t))) $$ Y3
      iapply zip7
      isplitl [Y4]
      · iapply (turn7 (Φ := fun t => pay (F := F) c (4, t))) $$ Y4
      iapply (turn7 (Φ := fun t => pay (F := F) c (5, t))) $$ Y5
    unfold blockJ
    isplitr; · iexact HR
    isplitl [HO]
    · iapply (show ow c (left 16) ⊢ ow c (left (16 + 2 * 1)) from Entails.of_eq (congrArg (ow (F := F) c) left_mid.symm)) $$ HO
    isplitl [B1] <;> iassumption
  unfold blockB blockJ
  iintro %_ ⟨HB, -, HO, B1, B2⟩
  ihave HB := unzip7 $$ HB
  icases HB with ⟨HQ, HB⟩
  ihave HQ := unzip7 $$ HQ
  icases HQ with ⟨HQ, Z1⟩
  ihave HB := unzip7 $$ HB
  icases HB with ⟨D2, D4⟩
  -- the sums received
  rw [wp_bind]
  iapply ((wp_recvs I K c).trans (wp_wand _ _ _)) $$ [O0 L0 D3 P3 D5 P5 HO]
  · isplitr [HO]
    · isplitl [O0 L0]
      · isplitl [O0] <;> iassumption
      unfold recvA
      iapply zip7
      isplitl [D3 P3]
      · iapply zip7
        isplitl [D3] <;> iassumption
      iapply zip7
      isplitl [D5] <;> iassumption
    unfold rest
    isplitr; · iexact HR
    iexact HO
  unfold recvB
  iintro %a ⟨%ha, ⟨⟨O0, L0⟩, HB⟩, HJ⟩
  subst ha
  ihave HB := unzip7 $$ HB
  icases HB with ⟨HB, HZ⟩
  ihave HB := unzip7 $$ HB
  icases HB with ⟨Os, Ls⟩
  ihave HZ := unzip7 $$ HZ
  icases HZ with ⟨Z3, Z5⟩
  -- the division and the projection
  rw [wp_bind]
  iapply ((wp_seq8' (c := c) (fun n => whE c cc0_scratch9 (okA n (attOf (accN I c 7)))) (fun h => wp_norm c (accN I c 7) h)).trans (wp_wand _ _ _)) $$ [B9]
  · unfold whE
    icases B9 with ⟨%g, -, B9⟩
    iexists g; isplitr; · ipureintro; exact okA_zero _ _
    iexact B9
  iintro %_ B9
  ihave B9 := whole_a c _ $$ B9
  rw [wp_bind]
  iapply ((wp_project I c (accN I c 7) q₂).trans (wp_wand _ _ _)) $$ [B9 W2 W3]
  · isplitl [B9]; · iexact B9
    isplitl [W2] <;> iassumption
  iintro %_ ⟨B9, W2, W3⟩
  -- what was sent has left
  rw [wp_bind]
  iapply ((wp_seq7 (c := c) (f := qLeft) (fun t => iprop(due c (some (0, t)) ∗ pos0 c (some (0, t)))) (fun t => iprop(slP c cc0_scratch0 (rQ 0) (qTok t) (qC I c)
      ∗ semVal (kcell c (some (0, t))) 0)) (fun _ => rest I K c) fun t ht => wp_qLeft I K c t ht).trans (wp_wand _ _ _)) $$ [D0 P0 HJ]
  · isplitr [HJ]
    · iapply zip7
      isplitl [D0] <;> iassumption
    iexact HJ
  iintro %_ ⟨HB, HJ⟩
  ihave HB := unzip7 $$ HB
  icases HB with ⟨Qs, Z0⟩
  iapply ((wp_seq7 (c := c) (f := olLeft) (olA c) (olB I c) (fun _ => rest I K c) fun t ht => wp_olLeft I K c t ht).trans (wp_wand _ _ _)) $$ [D2 P2 D4 P4 HJ]
  · isplitr [HJ]
    · unfold olA
      iapply zip7
      isplitl [D2 P2]
      · iapply zip7
        isplitl [D2]; · iexact D2
        iapply (turn7 (Φ := fun t => pos0 (F := F) c (some (2, t)))) $$ P2
      iapply zip7
      isplitl [D4]; · iexact D4
      iapply (turn7 (Φ := fun t => pos0 (F := F) c (some (4, t)))) $$ P4
    iexact HJ
  unfold olB
  iintro %_ ⟨HB, HJ⟩
  ihave HB := unzip7 $$ HB
  icases HB with ⟨HA, HB⟩
  ihave HA := unzip7 $$ HA
  icases HA with ⟨S5, Z2⟩
  ihave HB := unzip7 $$ HB
  icases HB with ⟨S7, Z4⟩
  ihave S5 := (unturn7 (Φ := fun t => slP c cc0_scratch5 (rQ t) fullShare (osC I c))) $$ S5
  ihave S7 := (unturn7 (Φ := fun t => slP c cc0_scratch7 (rL t) fullShare (lsC I c))) $$ S7
  ihave Z2 := (unturn7 (Φ := fun t => (semVal (kcell c (some (2, t))) 0 : sProp 𝕄))) $$ Z2
  ihave Z4 := (unturn7 (Φ := fun t => (semVal (kcell c (some (4, t))) 0 : sProp 𝕄))) $$ Z4
  ihave Q0 := slot0_join I c $$ [Q0 QT Qs]
  · isplitl [Q0]; · iexact Q0
    isplitl [QT]; · iexact QT
    iexact Qs
  unfold endS semT
  isplitl [HJ]; · iexact HJ
  isplitl [W0 W1 W2 W3]
  · isplitl [W0]; · iexact W0
    isplitl [W1]; · iexact W1
    isplitl [W2]; · iexact W2
    iexact W3
  isplitl [HS]; · iexact HS
  isplitl [T0 T1]
  · isplitl [T0] <;> iassumption
  isplitl [B1 B2 B9]
  · isplitl [B1]; · iexact B1
    isplitl [B2] <;> iassumption
  isplitl [Q0 O0 L0]
  · isplitl [Q0]; · iexact Q0
    isplitl [O0] <;> iassumption
  isplitl [HQ Os Ls S5 S7]
  · isplitl [HQ]; · iexact HQ
    isplitl [Os]; · iexact Os
    isplitl [Ls]; · iexact Ls
    isplitl [S5] <;> iassumption
  isplitl [ZB]; · iexact ZB
  isplitl [Z0]; · iexact Z0
  isplitl [Z1]; · iexact Z1
  isplitl [Z2]; · iexact Z2
  isplitl [Z3]; · iexact Z3
  isplitl [Z4]; · iexact Z4
  iexact Z5

end Cert.KernelIdeal.Pf
-- ==== Proof.KernelIdeal.Entry.lean ====
/- The body from the whole buffers a device holds at the start to the whole buffers at the end. -/
module

public import proofs.«01_k».proof.Proof.KernelIdeal.Flow

@[expose] public section

set_option synthInstance.maxSize 4096

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop Flight)

variable {F : FTy → Type} [FloatOps F]

local notation "𝕄" => MT nD τ sig Unit (Elt F) ℕ UU ℕ

/-! ## A head's part of an argument array -/

theorem mem_rIn (h : Fin 8) (i : S1x4096x8x128.Idx) : i ∈ (rIn h).set ↔ (i 2 : Fin 8) = h := by
  have h0 := (i 0).isLt; have h1 := (i 1).isLt; have h2 := (i 2).isLt; have h3 := (i 3).isLt
  refine Iff.trans ?_ (Fin.ext_iff.symm)
  rw [Rect.mem_set_unit]
  simp only [Fin.forall_fin_succ]
  simp at *
  omega
theorem rIn_disj (s t : Fin 8) (h : s ≠ t) : Disjoint (rIn s).set (rIn t).set :=
  Finset.disjoint_left.mpr fun i hs ht => h (((mem_rIn s i).mp hs).symm.trans ((mem_rIn t i).mp ht))
theorem rIn_cover : Finset.univ.biUnion (fun t : Fin 8 => (rIn t).set) = (Finset.univ : Finset S1x4096x8x128.Idx) :=
  Finset.eq_univ_iff_forall.mpr fun i => Finset.mem_biUnion.mpr ⟨i 2, Finset.mem_univ _, (mem_rIn _ i).mpr rfl⟩

/-! ## Buffers and their slots -/

omit [FloatOps F] in
theorem slP_slE (c : Dev nD) (b : Ref sig .tc) (r : Rect b.ty.shape) (f : b.ty.Contents (Elt F)) : slP c b r fullShare f ⊢ slE c b r fun _ => True := by
  unfold slE
  iintro H; iexists f; isplitr; · ipureintro; trivial
  iexact H
omit [FloatOps F] in
theorem whP_whE (c : Dev nD) (b : Ref sig .tc) (f : b.ty.Contents (Elt F)) : whP c b fullShare f ⊢ whE c b fun _ => True := by
  unfold whE
  iintro H; iexists f; isplitr; · ipureintro; trivial
  iexact H

omit [FloatOps F] in
theorem drop_true (P : sProp 𝕄) : iprop(⌜True⌝ ∗ P) ⊢ P := by iintro ⟨-, H⟩; iexact H

section Slots
variable {n : ℕ} {b : Ref sig .tc} (c : Dev nD) (r : Fin n → Rect b.ty.shape)
  (hd : ∀ s t, s ≠ t → Disjoint (r s).set (r t).set) (hc : Finset.univ.biUnion (fun t => (r t).set) = Finset.univ)
include hd hc

omit [FloatOps F] in
theorem whole_slots (f : b.ty.Contents (Elt F)) : whP c b fullShare f = bigSep Finset.univ fun t => slP c b (r t) fullShare f := by
  unfold whP slP
  exact (congrArg (fun S => (((c : Thread nD τ).loc b) ↦[S]{fullShare} f : sProp 𝕄)) hc).symm.trans
    (pointsTo_biUnion (ℓ := (c : Thread nD τ).loc b) Finset.univ (fun t => (r t).set) fun s _ t _ h => hd s t h)

omit [FloatOps F] in
theorem whE_slots : whE (F := F) c b (fun _ => True) ⊢ bigSep Finset.univ fun t => slE c b (r t) fun _ => True := by
  unfold whE
  iintro ⟨%g, -, H⟩
  iapply (show (whP c b fullShare g ⊢ bigSep Finset.univ fun t => slE c b (r t) fun _ => True) from
    (Entails.of_eq (whole_slots c r hd hc g)).trans (bigSep_mono fun t _ => slP_slE c b (r t) g)) $$ H

theorem slots_whE : (bigSep Finset.univ fun t => slE (F := F) c b (r t) fun _ => True) ⊢ whE c b fun _ => True := by
  haveI : ∀ e, Nonempty (Elt F e) := inferInstance
  unfold slE whE whP
  refine (BI.bigSep_exists_pi Finset.univ fun t g => iprop(⌜True⌝ ∗ slP (F := F) c b (r t) fullShare g)).trans ?_
  iintro ⟨%fs, H⟩
  ihave H := (show (bigSep Finset.univ fun t => iprop(⌜True⌝ ∗ slP (F := F) c b (r t) fullShare (fs t))) ⊢ bigSep Finset.univ fun t => slP (F := F) c b (r t) fullShare (fs t) from
    bigSep_mono fun t _ => drop_true _) $$ H
  unfold slP
  ihave H := (pointsTo_biUnion_join (ℓ := (c : Thread nD τ).loc b) (q := fullShare) Finset.univ (fun t => (r t).set) fs (fun _ => Classical.choice inferInstance) fun s _ t _ h => hd s t h) $$ H
  icases H with ⟨%g, -, H⟩
  iexists g; isplitr; · ipureintro; trivial
  iapply (Entails.of_eq (congrArg (fun S => (((c : Thread nD τ).loc b) ↦[S]{fullShare} g : sProp 𝕄)) hc)) $$ H
end Slots

/-- A buffer of slots, the slot 0 apart. -/
theorem split_slots {b : Ref sig .tc} (c : Dev nD) (r : Fin 8 → Rect b.ty.shape)
    (hd : ∀ s t, s ≠ t → Disjoint (r s).set (r t).set) (hc : Finset.univ.biUnion (fun t => (r t).set) = Finset.univ) :
    whE (F := F) c b (fun _ => True) ⊢ iprop(slE c b (r 0) (fun _ => True) ∗ bigSep T7 fun t => slE c b (r t) fun _ => True) :=
  (whE_slots c r hd hc).trans (Entails.of_eq (bigSep_slot0 _))

/-- A buffer of slots back from the slots' contents. -/
theorem join_slots {b : Ref sig .tc} (c : Dev nD) (r : Fin 8 → Rect b.ty.shape)
    (hd : ∀ s t, s ≠ t → Disjoint (r s).set (r t).set) (hc : Finset.univ.biUnion (fun t => (r t).set) = Finset.univ) (f : b.ty.Contents (Elt F)) :
    iprop(slE c b (r 0) (fun _ => True) ∗ bigSep T7 fun t => slP c b (r t) fullShare f) ⊢ whE c b fun _ => True := by
  refine BIBase.Entails.trans ?_ (slots_whE c r hd hc)
  rw [bigSep_slot0]
  exact sep_mono_right (bigSep_mono fun t _ => slP_slE c b (r t) f)

/-- The open slots of a device, from its three landing buffers. -/
theorem windows_of (c : Dev nD) :
    iprop(bigSep T7 (fun t => slE (F := F) c cc0_scratch0 (rQ t) fun _ => True) ∗ bigSep T7 (fun t => slE (F := F) c cc0_scratch6 (rQ t) fun _ => True)
      ∗ bigSep T7 (fun t => slE (F := F) c cc0_scratch8 (rL t) fun _ => True)) ⊢ bigSep T7 (window c) := by
  have drop (b : Ref sig .tc) (r : Rect b.ty.shape) : slE (F := F) c b r (fun _ => True) ⊢ iprop(∃ f, slP (F := F) c b r fullShare f) := by
    unfold slE
    iintro ⟨%g, -, H⟩; iexists g; iexact H
  refine (sep_mono_right zip7).trans (zip7.trans (bigSep_mono fun t _ => ?_))
  unfold window
  exact BIClass.sep_mono (drop _ _) (BIClass.sep_mono (drop _ _) (drop _ _))

/-! ## The semaphores -/

/-- The two arrays of the local copies' semaphores. -/
abbrev arr2 : Fin 2 → DmaSems sig S2 := fun a => match a with | 0 => cc0_scratch16 | 1 => cc0_scratch17
def locals (c : Dev nD) : sProp 𝕄 := bigSep Finset.univ fun x : Fin 2 × Fin 2 => semVal ((c : Thread nD τ), SemLoc.dma (sem2 (arr2 x.1) x.2)) 0

omit [FloatOps F] in
theorem bigSep_6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_2 (Φ : Fin 2 → sProp 𝕄) : bigSep Finset.univ Φ = iprop(Φ 0 ∗ Φ 1) :=
  bigSep_univ_eq_bigSepL [0, 1] (by decide) (by decide) Φ

omit [FloatOps F] in
/-- The barrier's, and the arrays'. -/
theorem bigSep_key (Φ : Key → sProp 𝕄) : bigSep Finset.univ Φ = iprop(Φ none ∗ bigSep Finset.univ fun x => Φ (some x)) := by
  have h : (Finset.univ.erase none : Finset Key) = Finset.univ.map ⟨some, Option.some_injective _⟩ := by decide +kernel
  rw [bigSep_univ_at Φ none, h, bigSep_map]
  rfl
omit [FloatOps F] in
/-- A family over arrays and entries: the entries 0 apart. -/
theorem bigSep_entries {n : ℕ} (Φ : Fin n × Fin 8 → sProp 𝕄) :
    bigSep Finset.univ Φ = iprop((bigSep Finset.univ fun a => Φ (a, 0)) ∗ bigSep Finset.univ fun a => bigSep T7 fun t => Φ (a, t)) := by
  rw [bigSep_univ_prod, ← bigSep_sep']
  exact bigSep_congr fun a _ => bigSep_slot0 fun t => Φ (a, t)

omit [FloatOps F] in
theorem locals_eq (c : Dev nD) : locals (F := F) c = iprop((semVal ((c : Thread nD τ), SemLoc.dma (sem2 cc0_scratch16 0)) 0 ∗ semVal ((c : Thread nD τ), SemLoc.dma (sem2 cc0_scratch16 1)) 0)
    ∗ semVal ((c : Thread nD τ), SemLoc.dma (sem2 cc0_scratch17 0)) 0 ∗ semVal ((c : Thread nD τ), SemLoc.dma (sem2 cc0_scratch17 1)) 0) := by
  unfold locals
  rw [bigSep_univ_prod, bigSep_2, bigSep_2, bigSep_2]

theorem idle_k (c : Dev nD) (σ : Fin 2) : idle (F := F) c ktmp cc0_scratch16 σ
    = iprop((∃ f, slP (F := F) c cc0_scratch3 (rT σ) fullShare f) ∗ semVal ((c : Thread nD τ), SemLoc.dma (sem2 cc0_scratch16 σ)) 0) := by
  unfold idle
  refine congrArg (fun X : sProp 𝕄 => iprop(X ∗ _)) (congrArg BIBase.«exists» (funext fun f => ?_))
  exact slP_slice (b := cc0_scratch3) (rT σ) (fun _ => rfl) squeezes_S1x4096x128_S4096x128 c fullShare f
theorem idle_v (c : Dev nD) (σ : Fin 2) : idle (F := F) c vtmp cc0_scratch17 σ
    = iprop((∃ f, slP (F := F) c cc0_scratch4 (rT σ) fullShare f) ∗ semVal ((c : Thread nD τ), SemLoc.dma (sem2 cc0_scratch17 σ)) 0) := by
  unfold idle
  refine congrArg (fun X : sProp 𝕄 => iprop(X ∗ _)) (congrArg BIBase.«exists» (funext fun f => ?_))
  exact slP_slice (b := cc0_scratch4) (rT σ) (fun _ => rfl) squeezes_S1x4096x128_S4096x128 c fullShare f

omit [FloatOps F] in
theorem slE_ex (c : Dev nD) (b : Ref sig .tc) (r : Rect b.ty.shape) : slE (F := F) c b r (fun _ => True) = iprop(∃ f, slP (F := F) c b r fullShare f) := by
  refine BI.equiv_iff.mp ⟨?_, ?_⟩
  · show slE (F := F) c b r (fun _ => True) ⊢ iprop(∃ f, slP (F := F) c b r fullShare f)
    unfold slE
    iintro ⟨%g, -, H⟩; iexists g; iexact H
  · show iprop(∃ f, slP (F := F) c b r fullShare f) ⊢ slE (F := F) c b r (fun _ => True)
    iintro ⟨%g, H⟩
    iapply (slP_slE c b r g) $$ H

/-- The staging slots with their semaphores, from the staging buffers. -/
theorem idles_in (c : Dev nD) : iprop(whE (F := F) c cc0_scratch3 (fun _ => True) ∗ whE c cc0_scratch4 (fun _ => True) ∗ locals c) ⊢ iprop(idles c 0 ∗ idles c 1) := by
  refine (BIClass.sep_mono (whE_slots (b := cc0_scratch3) c rT rT_disj rT_cover) (sep_mono_left (whE_slots (b := cc0_scratch4) c rT rT_disj rT_cover))).trans ?_
  rw [bigSep_2, bigSep_2, locals_eq, slE_ex, slE_ex, slE_ex, slE_ex]
  unfold idles
  rw [idle_k, idle_k, idle_v, idle_v]
  iintro ⟨⟨K0, K1⟩, ⟨V0, V1⟩, ⟨S0, S1⟩, R0, R1⟩
  isplitl [K0 V0 S0 R0]
  · isplitl [K0 S0]
    · isplitl [K0] <;> iassumption
    isplitl [V0] <;> iassumption
  isplitl [K1 S1]
  · isplitl [K1] <;> iassumption
  isplitl [V1] <;> iassumption
theorem idles_out (c : Dev nD) : iprop(idles (F := F) c 0 ∗ idles c 1) ⊢ iprop(whE c cc0_scratch3 (fun _ => True) ∗ whE c cc0_scratch4 (fun _ => True) ∗ locals c) := by
  refine BIBase.Entails.trans ?_ (show iprop((bigSep Finset.univ fun σ => slE (F := F) c cc0_scratch3 (rT σ) fun _ => True)
      ∗ (bigSep Finset.univ fun σ => slE (F := F) c cc0_scratch4 (rT σ) fun _ => True) ∗ locals c) ⊢ _
    from BIClass.sep_mono (slots_whE (b := cc0_scratch3) c rT rT_disj rT_cover) (sep_mono_left (slots_whE (b := cc0_scratch4) c rT rT_disj rT_cover)))
  rw [bigSep_2, bigSep_2, locals_eq, slE_ex, slE_ex, slE_ex, slE_ex]
  unfold idles
  rw [idle_k, idle_k, idle_v, idle_v]
  iintro ⟨⟨⟨K0, S0⟩, V0, R0⟩, ⟨K1, S1⟩, V1, R1⟩
  isplitl [K0 K1]
  · isplitl [K0] <;> iassumption
  isplitl [V0 V1]
  · isplitl [V0] <;> iassumption
  isplitl [S0 S1]
  · isplitl [S0] <;> iassumption
  isplitl [R0] <;> iassumption

variable (I : Inp F) (K : Dev nD × Key → ℕ)

/-- The two argument arrays, head by head. -/
theorem sources_eq (c : Dev nD) : bigSep Finset.univ (source I c) = iprop(whP c main_arg2 fullShare (I.k c) ∗ whP c main_arg3 fullShare (I.v c)) := by
  rw [whole_slots (b := main_arg2) c rIn rIn_disj rIn_cover (I.k c), whole_slots (b := main_arg3) c rIn rIn_disj rIn_cover (I.v c), ← bigSep_sep']
  refine bigSep_congr fun h _ => ?_
  unfold source inP
  exact congrArg₂ (fun X Y : sProp 𝕄 => iprop(X ∗ Y)) (slP_slice (b := main_arg2) (rIn h) (fun _ => rfl) squeezes_S1x4096x1x128_S4096x128 c fullShare (I.k c))
    (slP_slice (b := main_arg3) (rIn h) (fun _ => rfl) squeezes_S1x4096x1x128_S4096x128 c fullShare (I.v c))

/-! ## What the body holds, buffer by buffer -/

/-- The ten scratch buffers, whatever they hold. -/
def scratch (c : Dev nD) : sProp 𝕄 :=
  iprop(whE (F := F) c cc0_scratch0 (fun _ => True) ∗ whE (F := F) c cc0_scratch1 (fun _ => True) ∗ whE (F := F) c cc0_scratch2 (fun _ => True)
    ∗ whE (F := F) c cc0_scratch3 (fun _ => True) ∗ whE (F := F) c cc0_scratch4 (fun _ => True) ∗ whE (F := F) c cc0_scratch5 (fun _ => True)
    ∗ whE (F := F) c cc0_scratch6 (fun _ => True) ∗ whE (F := F) c cc0_scratch7 (fun _ => True) ∗ whE (F := F) c cc0_scratch8 (fun _ => True)
    ∗ whE (F := F) c cc0_scratch9 (fun _ => True))

/-- What the conversation gives a device at the launch. -/
def talk0 (c : Dev nD) : sProp 𝕄 :=
  iprop((cred (tallyAt (kcell c none) () 7) ∗ dueT (F := F) c 1 ∗ dueT c 3 ∗ dueT c 5) ∗ bigSep Finset.univ (fun k => pos0 (F := F) c k) ∗ bigSep Finset.univ (fun x => pay (F := F) c x))

/-- All its semaphores at zero. -/
def zeros (c : Dev nD) : sProp 𝕄 :=
  iprop(semVal (kcell c none) 0 ∗ (bigSep Finset.univ fun x => (semVal (kcell c (some x)) 0 : sProp 𝕄)) ∗ locals (F := F) c)

def bodyIn (c : Dev nD) (q₀ q₁ q₂ : PosShare TreeShare) : sProp 𝕄 :=
  iprop((Rec I K ∗ ow c (left 1))
    ∗ (whP c cc0_stg0_0 q₀ (I.x c) ∗ whP c cc0_stg1_0 q₁ (I.wq c) ∗ whP c cc0_stg2_0 q₂ (I.wo c) ∗ whE c cc0_stg3_0 (fun _ => True))
    ∗ (whP c main_arg2 fullShare (I.k c) ∗ whP c main_arg3 fullShare (I.v c)) ∗ scratch c ∗ locals c ∗ talk0 c)

def bodyOut (c : Dev nD) (q₀ q₁ q₂ : PosShare TreeShare) : sProp 𝕄 :=
  iprop(ow c (left 32)
    ∗ (whP c cc0_stg0_0 q₀ (I.x c) ∗ whP c cc0_stg1_0 q₁ (I.wq c) ∗ whP c cc0_stg2_0 q₂ (I.wo c) ∗ whP c cc0_stg3_0 fullShare (outAt I c))
    ∗ (whP c main_arg2 fullShare (I.k c) ∗ whP c main_arg3 fullShare (I.v c)) ∗ scratch c ∗ zeros c)

/-- The records of the entries 0, which no transfer uses. -/
def spare (c : Dev nD) : sProp 𝕄 := bigSep Finset.univ fun a : Fin 6 => pos0 (F := F) c (some (a, 0))
/-- What the body leaves alone. -/
def aside (c : Dev nD) : sProp 𝕄 :=
  iprop(Rec I K ∗ spare c ∗ slE (F := F) c cc0_scratch5 (rQ 0) (fun _ => True) ∗ slE (F := F) c cc0_scratch7 (rL 0) (fun _ => True))

theorem enter (c : Dev nD) (q₀ q₁ q₂ : PosShare TreeShare) : bodyIn I K c q₀ q₁ q₂ ⊢ iprop(startS I K c q₀ q₁ q₂ ∗ aside I K c) := by
  unfold bodyIn scratch talk0 aside spare startS posT payT
  rw [sources_eq, bigSep_key, bigSep_entries (n := 6), bigSep_entries (n := 7)]
  rw [bigSep_6 fun a => bigSep T7 fun t => pos0 (F := F) c (some (a, t)), bigSep_7 fun a => bigSep T7 fun t => pay (F := F) c (a, t)]
  iintro ⟨⟨#HR, HO⟩, HW, HA, ⟨S0, S1, S2, S3, S4, S5, S6, S7, S8, S9⟩, HL, ⟨CB, D1, D3, D5⟩, ⟨PB, PZ, PT⟩, -, YT⟩
  ihave S0 := (split_slots (F := F) (b := cc0_scratch0) c rQ rQ_disj rQ_cover) $$ S0
  ihave S5 := (split_slots (F := F) (b := cc0_scratch5) c rQ rQ_disj rQ_cover) $$ S5
  ihave S6 := (split_slots (F := F) (b := cc0_scratch6) c rQ rQ_disj rQ_cover) $$ S6
  ihave S7 := (split_slots (F := F) (b := cc0_scratch7) c rL rL_disj rL_cover) $$ S7
  ihave S8 := (split_slots (F := F) (b := cc0_scratch8) c rL rL_disj rL_cover) $$ S8
  icases S0 with ⟨Q0, QT⟩
  icases S5 with ⟨A0, AT⟩
  icases S6 with ⟨O0, OT⟩
  icases S7 with ⟨B0, BT⟩
  icases S8 with ⟨L0, LT⟩
  isplitr [PZ A0 B0]
  · isplitl [HO]
    · isplitr; · iexact HR
      iexact HO
    isplitl [HW]; · iexact HW
    isplitl [HA]; · iexact HA
    isplitl [S3 S4 HL]
    · iapply (idles_in (F := F) c)
      isplitl [S3]; · iexact S3
      isplitl [S4] <;> iassumption
    isplitl [S1 S2 S9]
    · isplitl [S1]; · iexact S1
      isplitl [S2] <;> iassumption
    isplitl [Q0 O0 L0]
    · isplitl [Q0]; · iexact Q0
      isplitl [O0] <;> iassumption
    isplitl [QT OT LT AT BT]
    · isplitl [QT OT LT]
      · iapply (windows_of (F := F) c)
        isplitl [QT]; · iexact QT
        isplitl [OT] <;> iassumption
      isplitl [AT] <;> iassumption
    isplitl [CB PB]
    · isplitl [CB] <;> iassumption
    isplitl [PT]; · iexact PT
    isplitl [D1 D3 D5]
    · isplitl [D1]; · iexact D1
      isplitl [D3] <;> iassumption
    iexact YT
  · isplitr; · iexact HR
    isplitl [PZ]; · iexact PZ
    isplitl [A0] <;> iassumption

/-- The unused entries' cells, closed. -/
theorem spare_close (c : Dev nD) : iprop(Rec I K ∗ spare (F := F) c) ⊢ |={Set.univ}=> bigSep Finset.univ fun a : Fin 6 => (semVal (kcell c (some (a, 0))) 0 : sProp 𝕄) := by
  unfold spare
  refine BIBase.Entails.trans ?_ (bigSep_fupd _ _)
  refine bigSep_with_persistent fun a _ => ?_
  exact close_cell I K c (some (a, 0)) 0 (Or.inr (show (if (0 : Fin 8) = 0 then (∅ : Finset (Fin 8)) else {0}) = ∅ from if_pos rfl))

theorem leave (c : Dev nD) (q₀ q₁ q₂ : PosShare TreeShare) : iprop(endS I K c q₀ q₁ q₂ ∗ aside I K c) ⊢ |={Set.univ}=> bodyOut I c q₀ q₁ q₂ := by
  unfold bodyOut scratch zeros aside endS semT rest
  rw [sources_eq, bigSep_entries (n := 6)]
  rw [bigSep_6 fun a => bigSep T7 fun t => (semVal (kcell c (some (a, t))) 0 : sProp 𝕄)]
  iintro ⟨⟨⟨#HR, HO⟩, HW, HA, HI, ⟨S1, S2, S9⟩, ⟨Q0, O0, L0⟩, ⟨QT, OT, LT, AT, BT⟩, ZB, ZT⟩, -, PZ, A0, B0⟩
  imod (spare_close I K c) $$ [PZ] with Z0
  · isplitr; · iexact HR
    iexact PZ
  imodintro
  ihave HI := (idles_out (F := F) c) $$ HI
  icases HI with ⟨S3, S4, HL⟩
  isplitl [HO]; · iexact HO
  isplitl [HW]; · iexact HW
  isplitl [HA]; · iexact HA
  isplitr [ZB Z0 ZT HL]
  · isplitl [Q0 QT]
    · iapply (join_slots (F := F) (b := cc0_scratch0) c rQ rQ_disj rQ_cover _)
      isplitl [Q0]
      · iapply (slP_slE (F := F) c cc0_scratch0 (rQ 0) _) $$ Q0
      iexact QT
    isplitl [S1]
    · iapply (whP_whE (F := F) c cc0_scratch1 _) $$ S1
    isplitl [S2]
    · iapply (whP_whE (F := F) c cc0_scratch2 _) $$ S2
    isplitl [S3]; · iexact S3
    isplitl [S4]; · iexact S4
    isplitl [A0 AT]
    · iapply (join_slots (F := F) (b := cc0_scratch5) c rQ rQ_disj rQ_cover _)
      isplitl [A0] <;> iassumption
    isplitl [O0 OT]
    · iapply (join_slots (F := F) (b := cc0_scratch6) c rQ rQ_disj rQ_cover _)
      isplitl [O0]
      · iapply (slP_slE (F := F) c cc0_scratch6 (rQ 0) _) $$ O0
      iexact OT
    isplitl [B0 BT]
    · iapply (join_slots (F := F) (b := cc0_scratch7) c rL rL_disj rL_cover _)
      isplitl [B0] <;> iassumption
    isplitl [L0 LT]
    · iapply (join_slots (F := F) (b := cc0_scratch8) c rL rL_disj rL_cover _)
      isplitl [L0]
      · iapply (slP_slE (F := F) c cc0_scratch8 (rL 0) _) $$ L0
      iexact LT
    iapply (whP_whE (F := F) c cc0_scratch9 _) $$ S9
  isplitl [ZB]; · iexact ZB
  isplitr [HL]
  · isplitl [Z0]; · iexact Z0
    iexact ZT
  iexact HL

/-- An update at the end of a run is part of it. -/
theorem wp_update {c : Dev nD} {α : Type} {p : PB F α} {P : sProp 𝕄} {Q : α → sProp 𝕄} (h : P ⊢ WP c p fun a => iprop(|={Set.univ}=> Q a)) :
    P ⊢ WP c p Q := h.trans (wp_fupd _ _ _ p Q)

/-- A program that reads its device's number runs at that number. -/
theorem wp_dev {c : Dev nD} {α : Type} {k : Dev nD → PB F α} {P : sProp 𝕄} {Q : α → sProp 𝕄} (h : P ⊢ WP c (k c) Q) :
    P ⊢ WP c (Prog.lift .deviceId >>= k) Q :=
  h.trans (Entails.of_eq (wp_deviceId 𝒱₀ (c : Thread nD τ) none Set.univ (k := k)).symm)

/-- The printed body, from the buffers to the buffers. -/
theorem wp_body (c : Dev nD) (q₀ q₁ q₂ : PosShare TreeShare) :
    bodyIn I K c q₀ q₁ q₂ ⊢ WP c (flat (Memref.whole cc0_stg0_0) (Memref.whole cc0_stg1_0) (Memref.whole cc0_stg2_0) (Memref.whole cc0_stg3_0))
      fun _ => bodyOut I c q₀ q₁ q₂ := by
  have h := (wp_frame' (R := aside I K c) (wp_flatAt I K c q₀ q₁ q₂)).trans (wp_mono _ _ _ fun _ => leave I K c q₀ q₁ q₂)
  exact wp_dev ((enter I K c q₀ q₁ q₂).trans (wp_update h))

end Cert.KernelIdeal.Pf
-- ==== Proof.KernelIdeal.Launch.lean ====
/- The launch: every device's cells made at once, their duties' tokens dealt to who pays them, and the
   units due at each. -/
module

public import proofs.«01_k».proof.Proof.KernelIdeal.Entry

@[expose] public section

set_option synthInstance.maxSize 4096

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop Flight)

variable {F : FTy → Type} [FloatOps F]

local notation "𝕄" => MT nD τ sig Unit (Elt F) ℕ UU ℕ

/-! ## The cells and the duties, minted -/

/-- The transfers' semaphores and the local copies'. -/
abbrev osem : (Fin 6 × Fin 8) ⊕ (Fin 2 × Fin 2) → SemLoc sig := fun k => match k with
  | .inl x => csem (some x)
  | .inr x => .dma (sem2 (arr2 x.1) x.2)
theorem ownSemFacts : Pipeline.OwnSemFacts cfg0.spec osem := by decide +kernel

def allCells : Finset (GSem nD τ sig) :=
  Finset.univ.map ⟨fun x : Dev nD × Key => kcell x.1 x.2, fun _ _ h => Prod.ext (kcell_eq_iff.mp h).1 (kcell_eq_iff.mp h).2⟩

theorem tok_inj : ∀ x y : Tok, ckey x = ckey y → dut x = dut y → x = y := by decide +kernel
abbrev mintOf (x : Dev nD × Tok) : GSem nD τ sig × ℕ × Fin 8 := (kcell x.1 (ckey x.2), 0, dut x.2)
theorem mintOf_injective : Function.Injective mintOf := fun x y h => by
  have h1 := kcell_eq_iff.mp (congrArg Prod.fst h)
  have h2 : dut x.2 = dut y.2 := congrArg (fun z : GSem nD τ sig × ℕ × Fin 8 => z.2.2) h
  exact Prod.ext h1.1 (tok_inj _ _ h1.2 h2)
def allToks : Finset (GSem nD τ sig × ℕ × Fin 8) := Finset.univ.map ⟨mintOf, mintOf_injective⟩

def u₀ : UU := (initOf (Pipeline.cells cfgs cellOf_inj) (Pipeline.launchToks cfgs cellOf_inj), (initOf allCells allToks, (1 : Counters)))

omit [FloatOps F] in
theorem ownU_split (a : UR sig nD τ) (b : UB) : (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

variable (I : Inp F)

/-- The duty tokens of device `c`'s own cells. -/
def toks (c : Dev nD) : sProp 𝕄 := bigSep Finset.univ fun x : Tok => dutyTok ER (kcell c (ckey x)) 0 (dut x)
/-- The tokens of the duties it pays. -/
def payToks (c : Dev nD) : sProp 𝕄 := bigSep Finset.univ fun x : Tok => pay c x

/-- What the launch deals device `c`. -/
def G (c : Dev nD) : sProp 𝕄 :=
  iprop((bigSep Finset.univ fun k : Key => roundState ER (sched I) (kcell c k) 0)
    ∗ (bigSep Finset.univ fun k : Key => (atPos ER (kcell c k) 0 ∅ 0 : sProp 𝕄)) ∗ (bigSep Finset.univ fun k : Key => (reached ER (kcell c k) 0 : sProp 𝕄)) ∗ toks c)

theorem fund : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : Key => Φ (kcell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched I) allCells allToks) $$ HX with ⟨Hst, Hr, Hat, Htok⟩
  imodintro
  ihave Hst := (Entails.of_eq (hX fun g => roundState ER (sched I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-! ## Every device's cells at once -/

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun x => semVal (kcell c (some x)) 0) ∗ locals c) := by
  unfold Pipeline.ownSems0 locals
  exact BI.bigSep_univ_sum _
omit [FloatOps F] in
theorem unscopedSems0_eq (c : Dev nD) : (unscopedSems0 c : sProp 𝕄) = semVal (kcell c none) 0 := by
  unfold unscopedSems0; rw [bigSep_eq_bigSepL_of_eq [SemLoc.reg barS] (by decide) (by decide)]; rfl

/-- One device's cells, their invariants allocated. -/
def made (c : Dev nD) : sProp 𝕄 :=
  iprop((bigSep Finset.univ fun k : Key => iprop(∃ κ : ℕ, cellInv ER (sched I) κ (kcell c k))) ∗ (bigSep Finset.univ fun k : Key => (reached ER (kcell c k) 0 : sProp 𝕄))
    ∗ (bigSep Finset.univ fun k : Key => (atPos ER (kcell c k) 0 ∅ 0 : sProp 𝕄)) ∗ toks c ∗ locals c)

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> made I c := by
  rw [ownSems0_eq, unscopedSems0_eq]
  unfold G made
  iintro ⟨⟨HS, HL⟩, HB, Hst, Hat, Hr, Htok⟩
  ihave Hv := (Entails.of_eq (bigSep_key fun k => (semVal (kcell c k) 0 : sProp 𝕄)).symm) $$ [HS HB]
  · isplitl [HB] <;> iassumption
  imod (show iprop((bigSep Finset.univ fun k : Key => semVal (kcell c k) 0) ∗ bigSep Finset.univ fun k : Key => roundState ER (sched I) (kcell c k) 0)
      ⊢ (|={Set.univ}=> bigSep Finset.univ fun k => iprop(∃ κ : ℕ, cellInv ER (sched I) κ (kcell c k)) : sProp 𝕄) from by
        rw [← bigSep_sep']
        exact (bigSep_mono fun k _ => (Rounds.body_intro ER (sched I) (kcell c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok] <;> iassumption

/-- The devices, turned by `e`. -/
def turn (e : Fin 8) : Dev nD ≃ Dev nD := ⟨fun c => up c e, fun c => dn c e, fun c => dn_up c e, fun c => up_dn c e⟩

omit [FloatOps F] in
/-- Two nested families, the other way round. -/
theorem swap_families {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), bigSep_univ_equiv (Equiv.prodComm B A), bigSep_univ_prod]
  rfl

omit [FloatOps F] in
/-- Each duty's token goes to the device that pays it. -/
theorem toks_around : (bigSep Finset.univ fun c : Dev nD => (toks c : sProp 𝕄)) = bigSep Finset.univ fun c : Dev nD => payToks c := by
  unfold toks payToks
  rw [swap_families, swap_families fun (c : Dev nD) x => pay (F := F) c x]
  exact bigSep_congr fun x _ => bigSep_univ_equiv (turn (dir x)) fun c : Dev nD => (dutyTok ER (kcell c (ckey x)) 0 (dut x) : sProp 𝕄)

/-- The invariants and the rounds reached. -/
def marks (K : Dev nD × Key → ℕ) : sProp 𝕄 :=
  iprop((bigSep Finset.univ fun x : Dev nD × Key => cellInv ER (sched I) (K x) (kcell x.1 x.2))
    ∗ bigSep Finset.univ fun x : Dev nD × Key => reached ER (kcell x.1 x.2) 0)
instance marks_persistent (K : Dev nD × Key → ℕ) : BI.Persistent (marks I K) := by unfold marks; infer_instance

/-- What each device starts from. -/
def G' (c : Dev nD) : sProp 𝕄 :=
  iprop((∃ K, marks I K) ∗ (bigSep Finset.univ fun k : Key => pos0 (F := F) c k) ∗ payToks c ∗ locals c)

theorem regroup : bigSep Finset.univ (made I) ⊢ bigSep Finset.univ (G' I) := by
  unfold made
  rw [bigSep_sep', bigSep_sep', bigSep_sep', bigSep_sep', ← bigSep_univ_prod (fun x : Dev nD × Key => iprop(∃ κ : ℕ, cellInv ER (sched I) κ (kcell x.1 x.2))),
    ← bigSep_univ_prod (fun x : Dev nD × Key => (reached ER (kcell x.1 x.2) 0 : sProp 𝕄)), toks_around]
  iintro ⟨HI, #HR, Hat, Htok, HL⟩
  ihave HK := (BI.bigSep_exists_pi Finset.univ (fun (x : Dev nD × Key) (κ : ℕ) => (cellInv ER (sched I) κ (kcell x.1 x.2) : sProp 𝕄))) $$ HI
  icases HK with ⟨%K, #HI⟩
  iapply (show iprop(marks I K ∗ bigSep Finset.univ fun c : Dev nD => iprop((bigSep Finset.univ fun k : Key => pos0 (F := F) c k) ∗ payToks c ∗ locals c)) ⊢ bigSep Finset.univ (G' I) from
    bigSep_with_persistent fun c _ => by
      show iprop(marks I K ∗ (bigSep Finset.univ fun k : Key => pos0 (F := F) c k) ∗ payToks c ∗ locals c) ⊢ G' I c
      unfold G'
      iintro ⟨HM, HR⟩
      isplitl [HM]
      · iexists K; iexact HM
      iexact HR)
  isplitr
  · unfold marks; isplitl; · iexact HI
    iexact HR
  rw [bigSep_sep', bigSep_sep']
  isplitl [Hat]; · iexact Hat
  isplitl [Htok] <;> iassumption

/-- The step over all devices. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The units due at each cell -/

/-- What each device owes at the start. -/
def O₀ (c : Dev nD) : CellTallies nD τ sig Unit := owed c (left 1)

/-- How many devices' payments cell `k` expects. -/
def payers (k : Key) : ℕ := ((left 1).filter fun x => ckey x = k).card

theorem owed_sum (c : Dev nD) (k : Key) : ∑ d : Dev nD, O₀ d (kcell c k) () = payers k * amtK k := by
  have h1 (d : Dev nD) : O₀ d (kcell c k) () = ∑ x ∈ left 1, if c = up d (dir x) ∧ k = ckey x then amtK k else 0 := by
    unfold O₀ owed
    rw [Finset.sum_apply, Finsupp.finset_sum_apply]
    refine Finset.sum_congr rfl fun x _ => ?_
    rw [tallyAt_apply]
    by_cases h : c = up d (dir x) ∧ k = ckey x
    · rw [if_pos h, if_pos ⟨kcell_eq_iff.mpr h, rfl⟩, h.2]
    · rw [if_neg h, if_neg fun h' => h (kcell_eq_iff.mp h'.1)]
  rw [Finset.sum_congr rfl fun d _ => h1 d, Finset.sum_comm]
  have h2 (x : Tok) : (∑ d : Dev nD, if c = up d (dir x) ∧ k = ckey x then amtK k else 0) = if ckey x = k then amtK k else 0 := by
    rw [Finset.sum_eq_single (dn c (dir x)) (fun d _ hd => if_neg fun h => hd (by rw [h.1, dn_up])) fun h => absurd (Finset.mem_univ _) h, up_dn]
    by_cases h : ckey x = k
    · rw [if_pos h, if_pos ⟨rfl, h.symm⟩]
    · rw [if_neg h, if_neg fun h' => h h'.2.symm]
  rw [Finset.sum_congr rfl fun x _ => h2 x, ← Finset.sum_filter, Finset.sum_const, smul_eq_mul]
  rfl

omit [FloatOps F] in
theorem launch_at (c : Dev nD) (k : Key) :
    tallyOn (kcell c k) (launchCredit (Pipeline.owing O₀) 0 (kcell c k)) = (tallyAt (kcell c k) () (payers k * amtK k) : CellTallies nD τ sig Unit) := by
  unfold tallyAt; refine congrArg _ (Finsupp.ext fun u => ?_); cases u
  rw [Pipeline.launchCredit_owing, Finsupp.single_eq_same, owed_sum]

theorem payers_bar : payers none = 7 := by decide +kernel
theorem payers_recv : ∀ (a : Fin 6) (t : Fin 8), t ≠ 0 → (a = 1 ∨ a = 3 ∨ a = 5) → payers (some (a, t)) = 1 := by decide +kernel

theorem due_of (c : Dev nD) (a : Fin 6) (ha : a = 1 ∨ a = 3 ∨ a = 5) :
    (bigSep T7 fun t => (cred (tallyAt (kcell c (some (a, t))) () (payers (some (a, t)) * amtK (some (a, t)))) : sProp 𝕄)) = dueT c a := by
  unfold dueT
  exact bigSep_congr fun t ht => by rw [payers_recv a t (Finset.ne_of_mem_erase ht) ha, one_mul]

/-- The launch's credit, at the cells that are waited on. -/
theorem creds (c : Dev nD) : (Pipeline.launchCred O₀ c : sProp 𝕄) ⊢ iprop(cred (tallyAt (kcell c none) () 7) ∗ dueT c 1 ∗ dueT c 3 ∗ dueT c 5) := by
  have h : (Pipeline.launchCred O₀ c : sProp 𝕄) ⊢ bigSep Finset.univ fun k : Key => cred (tallyAt (kcell c k) () (payers k * amtK k)) := by
    unfold Pipeline.launchCred
    refine (bigSep_subset (Finset.subset_univ (Finset.univ.map ⟨csem, csem_injective⟩))).trans ?_
    rw [bigSep_map]
    exact bigSep_mono fun k _ => Entails.of_eq (congrArg cred (launch_at c k))
  rw [bigSep_key, bigSep_entries (n := 6), bigSep_6 fun a => bigSep T7 fun t => (cred (tallyAt (kcell c (some (a, t))) () (payers (some (a, t)) * amtK (some (a, t)))) : sProp 𝕄),
    due_of c 1 (by decide), due_of c 3 (by decide), due_of c 5 (by decide), payers_bar, show 7 * amtK none = 7 from rfl] at h
  iintro H
  ihave H := h $$ H
  icases H with ⟨HB, -, -, H1, -, H3, -, H5⟩
  isplitl [HB]; · iexact HB
  isplitl [H1]; · iexact H1
  isplitl [H3] <;> iassumption

end Cert.KernelIdeal.Pf
-- ==== Proof.KernelIdeal.Run.lean ====
/- The run of the whole program: the pipeline's data, the body's obligation, the launch, and what the
   memory holds at the end. -/
module

public import proofs.«01_k».proof.Proof.KernelIdeal.Launch
public import Idealize.ShloMosaic.Lib.Pipeline.Quiescent

@[expose] public section

set_option synthInstance.maxSize 4096

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop Flight)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- What the launch stages for each device, and its keys and values. -/
def inp : Inp F where
  x c := (win0_0.blk (0 : Fin 1)).view.read (Elt F) (m ((c : Thread nD τ).loc main_arg0))
  wq c := (win0_1.blk (0 : Fin 1)).view.read (Elt F) (m ((c : Thread nD τ).loc main_arg1))
  k c := m ((c : Thread nD τ).loc main_arg2)
  v c := m ((c : Thread nD τ).loc main_arg3)
  wo c := (win0_2.blk (0 : Fin 1)).view.read (Elt F) (m ((c : Thread nD τ).loc main_arg4))

/-- The two argument arrays that are not staged. -/
def arrays (c : Dev nD) : sProp 𝕄 :=
  iprop(whP c main_arg2 fullShare (m ((c : Thread nD τ).loc main_arg2)) ∗ whP c main_arg3 fullShare (m ((c : Thread nD τ).loc main_arg3)))

/-- What device `c`'s body starts from. -/
def start (c : Dev nD) : sProp 𝕄 :=
  iprop((∃ K, Rec (inp m) K) ∗ arrays m c ∗ locals c ∗ talk0 c)
def Φ₀ (c : Dev nD) : sProp 𝕄 := iprop(start m c ∗ scratch c)
def Φ₁ (c : Dev nD) : sProp 𝕄 := iprop(arrays m c ∗ scratch c ∗ zeros c)

def dats (_ : Fin 1) (c : Dev nD) : Pipeline.Dat τ (Elt F) Unit ℕ UU ℕ cfg0 c where
  A w := m ((cfg0.win w).arr.view.loc (c : Thread nD τ))
  after w _ := match w with
    | ⟨0, _⟩ => (inp m).x c
    | ⟨1, _⟩ => (inp m).wq c
    | ⟨2, _⟩ => (inp m).wo c
    | ⟨3, _⟩ => outAt (inp m) c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

/-- A staging buffer holding `X`. -/
def stg (c : Dev nD) (b : Ref sig .tc) (X : b.ty.Contents (Elt F)) : sProp 𝕄 := iprop(∃ f : b.ty.Contents (Elt F), ⌜f = X⌝ ∗ whP c b fullShare f)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg whP; simp only [Memref.view_whole, View.read_whole, View.set_whole]

omit [FloatOps F] in
theorem stg_intro (c : Dev nD) (b : Ref sig .tc) (X : b.ty.Contents (Elt F)) : whP c b fullShare X ⊢ stg c b X := by
  unfold stg
  iintro H; iexists X; isplitr; · ipureintro; rfl
  iexact H
omit [FloatOps F] in
theorem stg_elim (c : Dev nD) (b : Ref sig .tc) (X Y : b.ty.Contents (Elt F)) (h : X = Y) : stg c b X ⊢ whP c b fullShare Y := by
  subst h
  unfold stg
  iintro ⟨%f, %hf, H⟩
  subst hf
  iexact H

abbrev t₀ : Fin cfg0.N := t0_0

def bodyPre (c : Dev nD) : sProp 𝕄 :=
  iprop(Φ₀ m c ∗ (dats m 0 c).owesAt () t₀.castSucc
    ∗ (∃ d, stg c cc0_stg0_0 ((dats m 0 c).before (0 : Fin 4) t₀ d)) ∗ (∃ d, stg c cc0_stg1_0 ((dats m 0 c).before (1 : Fin 4) t₀ d))
    ∗ (∃ d, stg c cc0_stg2_0 ((dats m 0 c).before (2 : Fin 4) t₀ d)) ∗ (∃ d, stg c cc0_stg3_0 ((dats m 0 c).before (3 : Fin 4) t₀ d)))
def bodyPost (c : Dev nD) : sProp 𝕄 :=
  iprop(Φ₁ m c ∗ (dats m 0 c).owesAt () t₀.succ
    ∗ stg c cc0_stg0_0 ((inp m).x c) ∗ stg c cc0_stg1_0 ((inp m).wq c) ∗ stg c cc0_stg2_0 ((inp m).wo c) ∗ stg c cc0_stg3_0 (outAt (inp m) c))

theorem before_0 (c : Dev nD) (d) : (dats m 0 c).before (0 : Fin 4) t₀ d = (inp m).x c := by unfold Pipeline.Dat.before; rw [if_pos (fetch_0 t₀)]; rfl
theorem before_1 (c : Dev nD) (d) : (dats m 0 c).before (1 : Fin 4) t₀ d = (inp m).wq c := by unfold Pipeline.Dat.before; rw [if_pos (fetch_1 t₀)]; rfl
theorem before_2 (c : Dev nD) (d) : (dats m 0 c).before (2 : Fin 4) t₀ d = (inp m).wo c := by unfold Pipeline.Dat.before; rw [if_pos (fetch_2 t₀)]; rfl

theorem owes_in (c : Dev nD) : (dats m 0 c).owesAt () t₀.castSucc ⊢ ow c (left 1) := by
  unfold Pipeline.Dat.owesAt Pipeline.owesWithin ow
  rw [show (dats m 0 c).owed t₀.castSucc = owed c (left 1) from rfl]
  iintro ⟨%W, -, H⟩
  iexists W; iexact H
theorem owes_out (c : Dev nD) : ow c (left 32) ⊢ (dats m 0 c).owesAt () t₀.succ := by
  unfold Pipeline.Dat.owesAt Pipeline.owesWithin ow
  rw [show (dats m 0 c).owed t₀.succ = 0 from rfl, left_all, owed_empty]
  iintro ⟨%W, H⟩
  iexists W
  isplitr; · ipureintro; exact fun _ _ => Or.inl trivial
  iexact H

theorem pre_in (c : Dev nD) : bodyPre m c ⊢ iprop(∃ K, bodyIn (inp m) K c fullShare fullShare fullShare) := by
  unfold bodyPre Φ₀ start arrays
  iintro ⟨⟨⟨⟨%K, #HR⟩, HA, HL, HT⟩, HS⟩, HO, ⟨%d0, W0⟩, ⟨%d1, W1⟩, ⟨%d2, W2⟩, ⟨%d3, W3⟩⟩
  ihave HO := owes_in m c $$ HO
  ihave W0 := stg_elim c cc0_stg0_0 _ _ (before_0 m c d0) $$ W0
  ihave W1 := stg_elim c cc0_stg1_0 _ _ (before_1 m c d1) $$ W1
  ihave W2 := stg_elim c cc0_stg2_0 _ _ (before_2 m c d2) $$ W2
  ihave W3 := stg_elim c cc0_stg3_0 _ _ rfl $$ W3
  ihave W3 := whP_whE c cc0_stg3_0 _ $$ W3
  iexists K
  unfold bodyIn
  isplitl [HO]
  · isplitr; · iexact HR
    iexact HO
  isplitl [W0 W1 W2 W3]
  · isplitl [W0]; · iexact W0
    isplitl [W1]; · iexact W1
    isplitl [W2]; · iexact W2
    iexact W3
  isplitl [HA]; · iexact HA
  isplitl [HS]; · iexact HS
  isplitl [HL] <;> iassumption

theorem out_post (c : Dev nD) : bodyOut (inp m) c fullShare fullShare fullShare ⊢ bodyPost m c := by
  unfold bodyOut bodyPost Φ₁ arrays
  iintro ⟨HO, ⟨W0, W1, W2, W3⟩, HA, HS, HZ⟩
  isplitl [HA HS HZ]
  · isplitl [HA]; · iexact HA
    isplitl [HS] <;> iassumption
  isplitl [HO]; · iapply owes_out m c $$ HO
  isplitl [W0]; · iapply stg_intro c cc0_stg0_0 _ $$ W0
  isplitl [W1]; · iapply stg_intro c cc0_stg1_0 _ $$ W1
  isplitl [W2]; · iapply stg_intro c cc0_stg2_0 _ $$ W2
  iapply stg_intro c cc0_stg3_0 _ $$ W3

/-- The body at the generic program: what it needs of the run of the structured one. -/
theorem wp_pre (c : Dev nD) : bodyPre m c ⊢ WP c (flat (Memref.whole cc0_stg0_0) (Memref.whole cc0_stg1_0) (Memref.whole cc0_stg2_0) (Memref.whole cc0_stg3_0))
    fun _ => bodyPost m c := by
  refine (pre_in m c).trans ?_
  iintro ⟨%K, H⟩
  iapply ((wp_body (inp m) K c fullShare fullShare fullShare).trans (wp_mono _ _ _ fun _ => out_post m c)) $$ H

theorem wp_of_eq (c : Dev nD) (p q : PB F PUnit) (h : p = q) (A : sProp 𝕄) (B : PUnit → sProp 𝕄) (hq : A ⊢ WP c q B) : A ⊢ WP c p B := by
  subst h; exact hq

set_option maxRecDepth 100000 in
theorem body_obligation (c : Dev nD) : Pipeline.BodyObligation (dats (F := F) m 0 c) (defs₀ (F := F)) 𝒱₀ () Set.univ := fun t => by
  rw [fin_N0 t]
  rw [bigSep_W0, bigSep_W0]
  simp only [owns_whole_eq]
  exact wp_of_eq c _ _ (body_flat (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _)) _ _ (wp_pre m c)

/-! ## The launch's side conditions -/

theorem share_eq (c : Dev nD) (w : Fin cfg0.W) : (dats m 0 c).share w = fullShare := by unfold Pipeline.Dat.share; split <;> rfl

theorem lv_left : ∀ x ∈ left 1, 0 < lvK (ckey x) := by decide +kernel

theorem waits (c : Dev nD) : (levAts L lv : sProp 𝕄) ⊢ Pipeline.cellsWaits cfgs (dats m) () 0 c :=
  Pipeline.cellsWaits_intro cfgs (dats m) () 0 c fun w s t => by
    have h0 : ∀ (w : Fin 4) (s : Fin (cfg0.win w).nbuf), (dec (SemLoc.dma ((cfg0.win w).sem s))).elim 0 lvK = 0 := by decide +kernel
    rcases t with ⟨_ | _, ht⟩
    · exact may_wait c _ 0 (h0 w s) (left 1) lv_left
    · have h := may_wait (F := F) c (SemLoc.dma ((cfg0.win w).sem s)) 0 (h0 w s) ∅ fun x hx => absurd hx (Finset.notMem_empty x)
      rw [owed_empty] at h
      exact h

theorem scratch_of (c : Dev nD) : (Pipeline.scopedRest cfg0.spec c : sProp 𝕄) = scratch c := by
  have e (b : Ref sig .tc) : iprop(∃ f : Buf (Elt F) ((c : Thread nD τ).loc b), ((c : Thread nD τ).loc b) ↦{fullShare} f) = whE (F := F) c b (fun _ => True) := by
    refine BI.equiv_iff.mp ⟨?_, ?_⟩
    · show iprop(∃ f : Buf (Elt F) ((c : Thread nD τ).loc b), whP c b fullShare f) ⊢ whE (F := F) c b (fun _ => True)
      iintro ⟨%f, H⟩
      iapply whP_whE c b f $$ H
    · show whE (F := F) c b (fun _ => True) ⊢ iprop(∃ f : Buf (Elt F) ((c : Thread nD τ).loc b), whP c b fullShare f)
      unfold whE
      iintro ⟨%f, -, H⟩
      iexists f; iexact H
  refine (scopedRest0_eq c).trans ?_
  simp only [e]
  rfl

theorem rest_arrays (c : Dev nD) : (Pipeline.unscopedRestP Pipeline.Prefetch.none cfg0.spec c (fun b => m ((c : Thread nD τ).loc b)) : sProp 𝕄) = arrays m c := by
  rw [Pipeline.unscopedRestP_none, unscopedRest0_eq]
  rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ emp) := by
  rw [rest_arrays]
  unfold G' start talk0 Rec marks payToks
  iintro ⟨HA, #Hlev, Hcr, -, ⟨%K, #HI, #HM⟩, Hat, Htok, HL⟩
  ihave Hc := creds (F := F) c $$ Hcr
  imodintro
  isplitl
  · isplitr
    · iexists K
      isplitr; · iexact HI
      isplitr; · iexact HM
      iexact Hlev
    isplitl [HA]; · iexact HA
    isplitl [HL]; · iexact HL
    isplitl [Hc]; · iexact Hc
    isplitl [Hat] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_of]
  unfold Φ₀
  iintro ⟨Hs, -, Hr⟩
  isplitl [Hs] <;> iassumption

theorem phi1_exit (c : Dev nD) :
    (dats m 0 c).Φ (Fin.last cfg0.N) ⊢ iprop((unscopedSems0 c ∗ arrays m c) ∗ Pipeline.ownSems0 osem c ∗ Pipeline.scopedRest cfg0.spec c) := by
  rw [show (dats m 0 c).Φ (Fin.last cfg0.N) = Φ₁ m c from rfl, scratch_of, ownSems0_eq, unscopedSems0_eq]
  unfold Φ₁ zeros
  iintro ⟨HA, Hr, HB, HZ, HL⟩
  isplitl [HB HA]
  · isplitl [HB] <;> iassumption
  isplitl [HZ HL]
  · isplitl [HZ] <;> iassumption
  iexact Hr

/-! ## The run -/

def finalA (c : Dev nD) (w : Fin cfg0.W) : Buf (Elt F) ((cfg0.win w).arr.view.loc (c : Thread nD τ)) := (dats m 0 c).arrAt w cfg0.N

/-- What is read of device `c` at the end: its semaphores that are not the kernel's own, and the arrays that are not staged. -/
def endOf (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

theorem end_read (c : Dev nD) (s' : Phys nD τ sig (Elt F)) :
    iprop((unscopedSems0 c ∗ arrays m c) ∗ emp ∗ SI s') ⊢ |={Set.univ}=> iprop(⌜endOf m c s'.mem⌝ ∗ (SI s' : sProp 𝕄)) := by
  unfold arrays whP
  iintro ⟨⟨Hu, H2, H3⟩, -, HSI⟩
  ihave %h2 := (SI_pointsTo_agree (st := s') (ℓ := (c : Thread nD τ).loc main_arg2) (I := Finset.univ) (q := fullShare) (f := m ((c : Thread nD τ).loc main_arg2))) $$ [HSI H2]
  · isplitl [HSI] <;> iassumption
  ihave %h3 := (SI_pointsTo_agree (st := s') (ℓ := (c : Thread nD τ).loc main_arg3) (I := Finset.univ) (q := fullShare) (f := m ((c : Thread nD τ).loc main_arg3))) $$ [HSI H3]
  · isplitl [HSI] <;> iassumption
  ihave %hu := (tcUnscoped_read c s') $$ [Hu HSI]
  · isplitl [Hu] <;> iassumption
  imodintro
  isplitr
  · ipureintro
    exact ⟨hu, funext fun i => h2 i (Finset.mem_univ i), funext fun i => h3 i (Finset.mem_univ i)⟩
  iexact HSI

/-- What the run ends with. -/
def QC : PUnit × MemSt nD τ sig (Elt F) → Prop := fun r =>
  (∀ c : Dev nD, (∀ w : Fin cfg0.W, r.2.mem ((cfg0.win w).arr.view.loc (c : Thread nD τ)) = finalA m c w) ∧ endOf m c r.2) ∧ r.2.sem = fun _ => 0

set_option maxRecDepth 100000 in
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (inp m)) (G' := G' (inp m)) (u₀ := u₀)
    (hu₀ := by
      unfold u₀
      iintro Hu
      ihave H := (ownU_split _ _) $$ Hu
      icases H with ⟨HP, HX⟩
      imod (fund (inp m)) $$ HX with HG
      imodintro
      isplitl [HP] <;> iassumption)
    (hglob := glob (inp m))
    (hA := fun _ _ => rfl) (hpf := fun _ k => k.elim0)
    (X := start m) (Y := fun c => iprop(unscopedSems0 c ∗ arrays m c)) (Z := fun _ => iprop(emp))
    (hX := start_intro m ρ) (hin := phi0_intro m) (hout := phi1_exit m)
    (QY := endOf m) (hY := end_read m)
    (hQ := fun _ h hs => ⟨fun c => ⟨fun w => (h c).1 w, (h c).2.2⟩, sem_eq_zero hs fun c => (h c).2.2.1⟩)

/-- The staged arguments end as they were. -/
theorem final_in (c : Dev nD) (w : Fin 4) (hw : w ≠ 3) : finalA m c w = m ((cfg0.win w).arr.view.loc (c : Thread nD τ)) := by
  fin_cases w
  · exact (dats (F := F) m 0 c).arrAt_in (0 : Fin 4) rfl _
  · exact (dats (F := F) m 0 c).arrAt_in (1 : Fin 4) rfl _
  · exact (dats (F := F) m 0 c).arrAt_in (2 : Fin 4) rfl _
  · exact absurd rfl hw

/-- The frame: every execution ends, the arguments unchanged and the semaphores at zero. -/
theorem frame_run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).1 (0 : Fin 4)).trans (final_in m c 0 (by decide)), ((h.1 c).1 (1 : Fin 4)).trans (final_in m c 1 (by decide)),
    (h.1 c).2.2.1, (h.1 c).2.2.2, ((h.1 c).1 (2 : Fin 4)).trans (final_in m c 2 (by decide))⟩, h.2⟩) (run_main m ρ)

end Cert.KernelIdeal.Pf
-- ==== Proof.KernelIdeal.Result.lean ====
/- What the memory holds: the staged arguments are the devices' argument arrays, and the result array ends as the block computed. -/
module

public import proofs.«01_k».proof.Proof.KernelIdeal.Run

@[expose] public section

noncomputable section

namespace Cert.KernelIdeal.Pf

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem inp_x (c : Dev nD) : (inp m).x c = m ((c : Thread nD τ).loc main_arg0) := by
  have hr := fun f => Memref.read_access_unit_zero (Elt F) main_arg0 (off := fun a => (win0_0.index (0 : Fin 1)) a * main_arg0.ty.shape.size a)
    (funext fun a => by fin_cases a <;> decide) (fun a => by fin_cases a <;> decide) f
  exact hr (m ((c : Thread nD τ).loc main_arg0))

theorem inp_wq (c : Dev nD) : (inp m).wq c = m ((c : Thread nD τ).loc main_arg1) := by
  have hr := fun f => Memref.read_access_unit_zero (Elt F) main_arg1 (off := fun a => (win0_1.index (0 : Fin 1)) a * main_arg1.ty.shape.size a)
    (funext fun a => by fin_cases a <;> decide) (fun a => by fin_cases a <;> decide) f
  exact hr (m ((c : Thread nD τ).loc main_arg1))

theorem inp_wo (c : Dev nD) : (inp m).wo c = m ((c : Thread nD τ).loc main_arg4) := by
  have hr := fun f => Memref.read_access_unit_zero (Elt F) main_arg4 (off := fun a => (win0_2.index (0 : Fin 1)) a * main_arg4.ty.shape.size a)
    (funext fun a => by fin_cases a <;> decide) (fun a => by fin_cases a <;> decide) f
  exact hr (m ((c : Thread nD τ).loc main_arg4))

/-- The result array's one block is written back once, whole. -/
theorem final_out (c : Dev nD) : finalA m c 3 = outAt (inp m) c := by
  have hr := fun f => Memref.read_access_unit_zero (Elt F) main_v1 (off := fun a => (win0_3.index (0 : Fin 1)) a * main_v1.ty.shape.size a)
    (funext fun a => by fin_cases a <;> decide) (fun a => by fin_cases a <;> decide) f
  refine (hr (finalA m c 3)).symm.trans ?_
  have hb : (win0_3.blk (0 : Fin 1)).view.read (Elt F) (finalA m c (3 : Fin 4)) = outAt (inp m) c := by
    unfold finalA
    rw [show cfg0.N = ((0 : Fin 1) : Fin cfg0.N).val + 1 from rfl, (dats m 0 c).arrAt_succ (3 : Fin 4) (0 : Fin 1),
      show (cfg0.win (3 : Fin 4)).flush (0 : Fin 1) = true from by decide, if_pos rfl]
    exact View.read_write_univ _ _
  exact hb

/-- Every execution ends with the computed block in each device's result array, the arguments unchanged. -/
theorem value_run : θ_run defs (onTc (τ := τ) (main (F := F))) ⟨m, fun _ => 0, ρ⟩ (fun r => ∀ c : Dev nD,
      r.2.mem ((c.tc : Thread nD τ).loc main_v1) = outAt (inp m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 (3 : Fin 4)).trans (final_out m c),
    ((h.1 c).1 (0 : Fin 4)).trans (final_in m c 0 (by decide)), ((h.1 c).1 (1 : Fin 4)).trans (final_in m c 1 (by decide)),
    (h.1 c).2.2.1, (h.1 c).2.2.2, ((h.1 c).1 (2 : Fin 4)).trans (final_in m c 2 (by decide))⟩) (run_main m ρ)

end Cert.KernelIdeal.Pf
-- ==== Proof.Value.Pay.lean ====
/- The kernel's stored values over the extended reals, read at an index. -/
module

public import proofs.«01_k».proof.Proof.KernelIdeal.Flat
public import Idealize.ShloMosaic.Lib.Pointwise

@[expose] public section

set_option maxRecDepth 16384

noncomputable section

namespace Cert.KernelIdeal.Val

open Cert.KernelIdeal Cert.KernelIdeal.Gen Cert.KernelIdeal.Pf Idealize.ShloMosaic

/-- The scale, 1/√128 as its float word has it. -/
def scale : EReal := Ideal.ofBits .f32 0x3DB504F3#32

theorem queries_at (x : FVec Ideal S1x256x1024 .f32) (w : FVec Ideal S1024x1024 .f32) (a : Fin 1) (i : Fin 256) (z : Fin 1024) :
    k0_pay2 (F := Ideal) (k0_pay1 (F := Ideal) x) w (ix3 a i z) = (∑ k : Fin 1024, x (ix3 0 i k) * w (ix2 k z)) * scale := by
  pointwise [k0_pay1, k0_pay2, scale]

theorem keys_at (w : FVec Ideal S1x4096x128 .f32) (a : Fin 1) (j : Fin 4096) (y : Fin 128) : k0_pay3 (F := Ideal) w (ix3 a j y) = (w (ix3 0 j y) : EReal) := by
  pointwise [k0_pay3]
theorem vals_at (w : FVec Ideal S1x4096x128 .f32) (a : Fin 1) (j : Fin 4096) (y : Fin 128) : k0_pay4 (F := Ideal) w (ix3 a j y) = (w (ix3 0 j y) : EReal) := by
  pointwise [k0_pay4]

theorem weights_at (q : FVec Ideal S1x256x128 .bf16) (k : FVec Ideal S1x4096x128 .bf16) (i : Fin 256) (j : Fin 4096) :
    k0_pay5 (F := Ideal) q k (ix2 i j) = Ideal.exp (∑ y : Fin 128, q (ix3 0 i y) * k (ix3 0 j y)) := by
  pointwise [k0_pay5]

theorem rowSums_at (q : FVec Ideal S1x256x128 .bf16) (k : FVec Ideal S1x4096x128 .bf16) (a b : Fin 1) (i : Fin 256) :
    k0_pay6 (F := Ideal) q k (ix3 a i b) = ∑ j : Fin 4096, k0_pay5 (F := Ideal) q k (ix2 i j) := by
  pointwise [k0_pay6]

theorem sums_at (q : FVec Ideal S1x256x128 .bf16) (k v : FVec Ideal S1x4096x128 .bf16) (a : Fin 1) (i : Fin 256) (y : Fin 128) :
    k0_pay7 (F := Ideal) q k v (ix3 a i y) = ∑ j : Fin 4096, k0_pay5 (F := Ideal) q k (ix2 i j) * v (ix3 0 j y) := by
  pointwise [k0_pay7]

theorem first_o (o : FVec Ideal S1x256x1024 .bf16) (l : FVec Ideal S1x256x8 .f32) (i : Fin 256) (z : Fin 1024) : (acc0 (F := Ideal) o l).1 (ix2 i z) = o (ix3 0 i z) := by
  pointwise [acc0]
theorem first_l (o : FVec Ideal S1x256x1024 .bf16) (l : FVec Ideal S1x256x8 .f32) (i : Fin 256) (h : Fin 8) : (acc0 (F := Ideal) o l).2 (ix2 i h) = l (ix3 0 i h) := by
  pointwise [acc0]
theorem next_o (a : Acc Ideal) (o : FVec Ideal S1x256x1024 .bf16) (l : FVec Ideal S1x256x8 .f32) (i : Fin 256) (z : Fin 1024) :
    (accStep a o l).1 (ix2 i z) = a.1 (ix2 i z) + o (ix3 0 i z) := by
  pointwise [accStep, acc0]
theorem next_l (a : Acc Ideal) (o : FVec Ideal S1x256x1024 .bf16) (l : FVec Ideal S1x256x8 .f32) (i : Fin 256) (h : Fin 8) :
    (accStep a o l).2 (ix2 i h) = a.2 (ix2 i h) + l (ix3 0 i h) := by
  pointwise [accStep, acc0]

theorem quot_at (a : Acc Ideal) (h : Fin 8) (i : Fin 256) (y : Fin 128) :
    normV a h (ix2 i y) = Ideal.div (a.1 (ix2 i ⟨128 * h.val + y.val, by omega⟩)) (a.2 (ix2 i h)) := by
  pointwise [normV]

theorem project_at (t : FVec Ideal S256x1024 .bf16) (w : FVec Ideal S1024x1024 .f32) (a : Fin 1) (i : Fin 256) (z : Fin 1024) :
    k0_pay276 (F := Ideal) (k0_pay275 (F := Ideal) t w) (ix3 a i z) = ∑ k : Fin 1024, t (ix2 i k) * w (ix2 k z) := by
  pointwise [k0_pay275, k0_pay276]

end Cert.KernelIdeal.Val
-- ==== Proof.Value.Block.lean ====
/- The kernel's block of the result over the extended reals, read at an index: for every column, the weighted sum of all
   devices' values over the sum of the weights; then the projection. -/
module

public import proofs.«01_k».proof.Proof.KernelIdeal.Cont
public import proofs.«01_k».proof.Proof.Value.Pay

@[expose] public section

noncomputable section

namespace Cert.KernelIdeal.Val

open Cert.KernelIdeal Cert.KernelIdeal.Gen Cert.KernelIdeal.Pf Idealize.ShloMosaic
open scoped BigOperators

variable (I : Inp Ideal)

/-- The score of query `i` of device `e` against key `j` of device `d`, in head `h`. -/
def sc (d e : Dev nD) (h : Fin 8) (i : Fin 256) (j : Fin 4096) : EReal :=
  ∑ y : Fin 128, ((∑ b : Fin 1024, (I.x e (ix3 0 i b) : EReal) * (I.wq e (ix2 b (col h y)) : EReal)) * scale) * (I.k d (ix4 0 j h y) : EReal)

theorem weight_at (d e : Dev nD) (h : Fin 8) (i : Fin 256) (j : Fin 4096) :
    k0_pay5 (F := Ideal) (qh I e h) (Kv I d h) (ix2 i j) = Ideal.exp (sc I d e h i j) :=
  (weights_at (qh I e h) (Kv I d h) i j).trans (congrArg Ideal.exp (Finset.sum_congr rfl fun y _ =>
    congrArg₂ (fun a b : EReal => a * b) (queries_at (I.x e) (I.wq e) 0 i (col h y)) (keys_at (headIn (I.k d) h) 0 j y)))

theorem oPart_at (d e : Dev nD) (h : Fin 8) (i : Fin 256) (y : Fin 128) :
    oPart I d e h (ix3 0 i y) = ∑ j : Fin 4096, Ideal.exp (sc I d e h i j) * (I.v d (ix4 0 j h y) : EReal) :=
  (sums_at (qh I e h) (Kv I d h) (Vv I d h) 0 i y).trans (Finset.sum_congr rfl fun j _ =>
    congrArg₂ (fun a b : EReal => a * b) (weight_at I d e h i j) (vals_at (headIn (I.v d) h) 0 j y))

theorem lPart_at (d e : Dev nD) (h : Fin 8) (i : Fin 256) : lPart I d e h (ix3 0 i 0) = ∑ j : Fin 4096, Ideal.exp (sc I d e h i j) :=
  (rowSums_at (qh I e h) (Kv I d h) 0 0 i).trans (Finset.sum_congr rfl fun j _ => weight_at I d e h i j)

/-- The running sums, slot by slot. -/
theorem acc_o (c : Dev nD) (i : Fin 256) (z : Fin 1024) (n : ℕ) :
    (accN I c n).1 (ix2 i z) = ∑ t ∈ Finset.range (n + 1), (oSl I c (Fin.ofNat 8 t) (ix3 0 i z) : EReal) := by
  induction n with
  | zero => exact (first_o _ _ i z).trans (Finset.sum_range_one (fun t => (oSl I c (Fin.ofNat 8 t) (ix3 0 i z) : EReal))).symm
  | succ n ih => rw [Finset.sum_range_succ, ← ih]; exact next_o (accN I c n) _ _ i z

theorem acc_l (c : Dev nD) (i : Fin 256) (h : Fin 8) (n : ℕ) :
    (accN I c n).2 (ix2 i h) = ∑ t ∈ Finset.range (n + 1), (lSl I c (Fin.ofNat 8 t) (ix3 0 i h) : EReal) := by
  induction n with
  | zero => exact (first_l _ _ i h).trans (Finset.sum_range_one (fun t => (lSl I c (Fin.ofNat 8 t) (ix3 0 i h) : EReal))).symm
  | succ n ih => rw [Finset.sum_range_succ, ← ih]; exact next_l (accN I c n) _ _ i h

/-- The devices, counted down from device `c`, are all of them. -/
theorem sum_dn (c : Dev nD) (f : Fin 8 → EReal) : ∑ t : Fin 8, f (dn c t) = ∑ d : Fin 8, f d :=
  Equiv.sum_comp (Equiv.subLeft (show Fin 8 from c)) f

theorem acc_o_at (c : Dev nD) (i : Fin 256) (z : Fin 1024) :
    (accN I c 7).1 (ix2 i z) = ∑ d : Fin 8, ∑ j : Fin 4096, Ideal.exp (sc I d c (hd z) i j) * (I.v d (ix4 0 j (hd z) (lo z)) : EReal) := by
  refine (acc_o I c i z 7).trans ((Finset.sum_range (n := 8) fun t => (oSl I c (Fin.ofNat 8 t) (ix3 0 i z) : EReal)).trans ?_)
  refine (Finset.sum_congr rfl fun t _ => ?_).trans (sum_dn c fun d => ∑ j : Fin 4096, Ideal.exp (sc I d c (hd z) i j) * (I.v d (ix4 0 j (hd z) (lo z)) : EReal))
  rw [Fin.ofNat_eq_cast, Fin.cast_val_eq_self]
  exact oPart_at I (dn c t) c (hd z) i (lo z)

theorem acc_l_at (c : Dev nD) (i : Fin 256) (h : Fin 8) :
    (accN I c 7).2 (ix2 i h) = ∑ d : Fin 8, ∑ j : Fin 4096, Ideal.exp (sc I d c h i j) := by
  refine (acc_l I c i h 7).trans ((Finset.sum_range (n := 8) fun t => (lSl I c (Fin.ofNat 8 t) (ix3 0 i h) : EReal)).trans ?_)
  refine (Finset.sum_congr rfl fun t _ => ?_).trans (sum_dn c fun d => ∑ j : Fin 4096, Ideal.exp (sc I d c h i j))
  rw [Fin.ofNat_eq_cast, Fin.cast_val_eq_self]
  exact lPart_at I (dn c t) c h i

/-- One column of the normalised sums. -/
theorem att_at (c : Dev nD) (i : Fin 256) (b : Fin 1024) : attOf (accN I c 7) (ix2 i b)
    = Ideal.div (∑ d : Fin 8, ∑ j : Fin 4096, Ideal.exp (sc I d c (hd b) i j) * (I.v d (ix4 0 j (hd b) (lo b)) : EReal))
        (∑ d : Fin 8, ∑ j : Fin 4096, Ideal.exp (sc I d c (hd b) i j)) := by
  refine (quot_at (accN I c 7) (hd b) i (lo b)).trans (congrArg₂ Ideal.div ?_ (acc_l_at I c i (hd b)))
  exact (congrArg (fun z => (accN I c 7).1 (ix2 i z)) (col_hd b)).trans (acc_o_at I c i b)

theorem outAt_at (c : Dev nD) (i : Fin 256) (z : Fin 1024) : outAt I c (ix3 0 i z)
    = ∑ b : Fin 1024, Ideal.div (∑ d : Fin 8, ∑ j : Fin 4096, Ideal.exp (sc I d c (hd b) i j) * (I.v d (ix4 0 j (hd b) (lo b)) : EReal))
        (∑ d : Fin 8, ∑ j : Fin 4096, Ideal.exp (sc I d c (hd b) i j)) * (I.wo c (ix2 b z) : EReal) :=
  (project_at (attOf (accN I c 7)) (I.wo c) 0 i z).trans (Finset.sum_congr rfl fun b _ =>
    congrArg (fun a : EReal => a * (I.wo c (ix2 b z) : EReal)) (att_at I c i b))

end Cert.KernelIdeal.Val
-- ==== Proof.Value.Softmax.lean ====
/- Facts of the extended reals: a quotient of weighted sums does not change when all weights' exponents are shifted by a
   real number; the maximum of finitely many reals is real; sums over eight blocks of 4096. -/
module

public import Idealize.ShloMosaic.PureOps.Ideal
public import Idealize.ShloMosaic.PureOps.Ideal.Laws

@[expose] public section

noncomputable section

namespace Cert.Softmax

open Idealize.ShloMosaic
open scoped BigOperators

/-- A sum of reals is real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor comes out of a sum, whatever the terms. -/
theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

theorem exp_coe (r : ℝ) : Ideal.exp (r : EReal) = (Real.exp r : EReal) := rfl

/-- The quotient of the weighted sum by the sum of the weights `exp (s j)`, the exponents shifted by `M` or not. -/
theorem quot_shift {ι : Type} [Fintype ι] [Nonempty ι] (s : ι → ℝ) (v : ι → EReal) (M : ℝ) :
    Ideal.div (∑ j, Ideal.exp ((s j : EReal) - (M : EReal)) * v j) (∑ j, Ideal.exp ((s j : EReal) - (M : EReal)))
      = Ideal.div (∑ j, Ideal.exp (s j : EReal) * v j) (∑ j, Ideal.exp (s j : EReal)) := by
  have hs (j : ι) : Ideal.exp (s j : EReal) = (Real.exp M : EReal) * Ideal.exp ((s j : EReal) - (M : EReal)) := by
    rw [← EReal.coe_sub, exp_coe, exp_coe, ← EReal.coe_mul, ← Real.exp_add, add_sub_cancel]
  have hpos : 0 < ∑ j, Real.exp (s j - M) := Finset.sum_pos (fun j _ => Real.exp_pos _) Finset.univ_nonempty
  have hden : ∑ j, Ideal.exp ((s j : EReal) - (M : EReal)) = ((∑ j, Real.exp (s j - M) : ℝ) : EReal) := by
    rw [coe_sum]; exact Finset.sum_congr rfl fun j _ => by rw [← EReal.coe_sub, exp_coe]
  have hne (r : ℝ) (h : 0 < r) : (r : EReal) ≠ 0 := by exact_mod_cast h.ne'
  simp only [hs, mul_assoc]
  rw [← mul_sum _ _ (Real.exp_pos M).le, ← mul_sum _ _ (Real.exp_pos M).le, hden, ← EReal.coe_mul]
  generalize ∑ j, Ideal.exp ((s j : EReal) - (M : EReal)) * v j = O
  generalize ∑ j, Real.exp (s j - M) = E at hpos
  unfold Ideal.div
  rw [if_neg (hne _ hpos), if_neg (hne _ (mul_pos (Real.exp_pos M) hpos)), ← EReal.coe_inv, ← EReal.coe_inv, mul_inv, EReal.coe_mul]
  have h1 : (Real.exp M : EReal) * ((Real.exp M)⁻¹ : ℝ) = 1 := by
    rw [← EReal.coe_mul, mul_inv_cancel₀ (Real.exp_pos M).ne', EReal.coe_one]
  rw [mul_mul_mul_comm, h1, one_mul]

/-- The maximum of finitely many reals, at least one, is real. -/
theorem max_real {ι : Type} [Fintype ι] [Nonempty ι] (s : ι → ℝ) : ∃ M : ℝ, Finset.univ.fold max (⊥ : EReal) (fun j => (s j : EReal)) = (M : EReal) := by
  have ht : Finset.univ.fold max (⊥ : EReal) (fun j => (s j : EReal)) < ⊤ :=
    (Finset.fold_max_lt _).mpr ⟨bot_lt_top, fun j _ => EReal.coe_lt_top (s j)⟩
  have hb : ⊥ < Finset.univ.fold max (⊥ : EReal) (fun j => (s j : EReal)) :=
    (Finset.lt_fold_max _).mpr (Or.inr ⟨Classical.arbitrary ι, Finset.mem_univ _, EReal.bot_lt_coe _⟩)
  exact ⟨_, (EReal.coe_toReal ht.ne hb.ne').symm⟩

/-- Key `j` of device `d`. -/
abbrev at8 (d : Fin 8) (j : Fin 4096) : Fin 32768 := ⟨4096 * d.val + j.val, by omega⟩

/-- All keys, device by device. -/
theorem sum_keys {M : Type} [AddCommMonoid M] (f : Fin 32768 → M) : ∑ J, f J = ∑ d : Fin 8, ∑ j : Fin 4096, f (at8 d j) := by
  rw [← Fintype.sum_prod_type' (f := fun d j => f (at8 d j))]
  refine (Equiv.sum_comp (finProdFinEquiv (m := 8) (n := 4096)) f).symm.trans (Finset.sum_congr rfl fun x _ => congrArg f ?_)
  exact Fin.ext (Nat.add_comm _ _)

/-- The two ways of scaling a real score. -/
theorem score {n m : ℕ} (x : Fin n → ℝ) (w : Fin n → Fin m → ℝ) (k : Fin m → ℝ) (σ : ℝ) :
    ∑ y, ((∑ a, (x a : EReal) * (w a y : EReal)) * (σ : EReal)) * (k y : EReal) = (((∑ y, (∑ a, x a * w a y) * k y) * σ : ℝ) : EReal)
      ∧ (∑ y, (∑ a, (x a : EReal) * (w a y : EReal)) * (k y : EReal)) * (σ : EReal) = (((∑ y, (∑ a, x a * w a y) * k y) * σ : ℝ) : EReal) := by
  have h (y : Fin m) : ∑ a, (x a : EReal) * (w a y : EReal) = ((∑ a, x a * w a y : ℝ) : EReal) := by
    rw [coe_sum]; exact Finset.sum_congr rfl fun a _ => (EReal.coe_mul _ _).symm
  simp only [h, ← EReal.coe_mul, ← coe_sum]
  refine ⟨congrArg _ ?_, trivial⟩
  rw [Finset.sum_mul]
  exact Finset.sum_congr rfl fun y _ => by ring

end Cert.Softmax
-- ==== Proof.Value.Reference.lean ====
/- The reference's result over the extended reals, read at an index: softmax attention over all keys, then the projection. -/
module

public import proofs.«01_k».proof.Proof.Gen.ReferenceIdeal.Run
public import Idealize.ShloMosaic.Lib.Pointwise
public import proofs.«01_k».proof.Proof.Value.Softmax

@[expose] public section

set_option maxRecDepth 16384

noncomputable section

namespace Cert.ReferenceIdeal.Val

open Cert.ReferenceIdeal Cert.ReferenceIdeal.Gen Idealize.ShloMosaic Idealize.SL.Sem

variable (x : FVec Ideal S1x2048x1024 .f32) (wq : FVec Ideal S1024x1024 .f32) (k v : FVec Ideal S1x32768x8x128 .f32) (wo : FVec Ideal S1024x1024 .f32)

/-- The scores. -/
def scores : FVec Ideal S1x8x2048x32768 .f32 :=
  mulf (Host.dotGeneral dot_S1x2048x8x128_S1x32768x8x128_S1x8x2048x32768_3_3_1_1_02_02 none (shapeCast _ (Host.dotGeneral dot_S1x2048x1024_S1024x1024_S1x2048x1024_2_0_01_1_n_n none x wq) shapeCasts_S1x2048x1024_S1x2048x8x128) k) (broadcastInDim S1x8x2048x32768 ![] bcast_S_S1x8x2048x32768 (constant S_ .f32 0x3DB504F3#32))

/-- The greatest score of each query. -/
def top (s : FVec Ideal S1x8x2048x32768 .f32) : FVec Ideal S1x8x2048 .f32 :=
  Host.reduce FloatOps.maximumf s (constant S_ .f32 0xFF800000#32) reducesTo_S1x8x2048x32768_S1x8x2048_d3 h_S_

/-- The weights: the exponentials of the scores, less a number for each query. -/
def weights (s : FVec Ideal S1x8x2048x32768 .f32) (t : FVec Ideal S1x8x2048 .f32) : FVec Ideal S1x8x2048x32768 .f32 :=
  Host.exp (subf s (broadcastInDim S1x8x2048x32768 ![0, 1, 2, 3] bcast_S1x8x2048x1_S1x8x2048x32768_0_1_2_3 (broadcastInDim S1x8x2048x1 ![0, 1, 2] bcast_S1x8x2048_S1x8x2048x1_0_1_2 t)))

/-- The weighted mean of the values. -/
def mean (p : FVec Ideal S1x8x2048x32768 .f32) : FVec Ideal S1x2048x8x128 .f32 :=
  Host.divf (transpose S1x2048x8x128 [0, 3, 1, 2] (Host.dotGeneral dot_S1x32768x8x128_S1x8x2048x32768_S1x8x128x2048_1_3_3_2_02_01 none v p) transposes_S1x8x128x2048_S1x2048x8x128_0_3_1_2) (broadcastInDim S1x2048x8x128 ![0, 1, 2, 3] bcast_S1x2048x8x1_S1x2048x8x128_0_1_2_3 (transpose S1x2048x8x1 [0, 2, 1, 3] (broadcastInDim S1x8x2048x1 ![0, 1, 2] bcast_S1x8x2048_S1x8x2048x1_0_1_2 (Host.reduceAdd p (constant S_ .f32 0x00000000#32) reducesTo_S1x8x2048x32768_S1x8x2048_d3 h_S_)) transposes_S1x8x2048x1_S1x2048x8x1_0_2_1_3))

/-- The projection of the heads, side by side. -/
def project (o : FVec Ideal S1x2048x8x128 .f32) : FVec Ideal S1x2048x1024 .f32 :=
  Host.dotGeneral dot_S1x2048x1024_S1024x1024_S1x2048x1024_2_0_01_1_n_n none (shapeCast _ o shapeCasts_S1x2048x8x128_S1x2048x1024) wo

/-- The result. -/
def result : FVec Ideal S1x2048x1024 .f32 := project wo (mean v (weights (scores x wq k) (top (scores x wq k))))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

theorem scores_at (a : Fin 1) (h : Fin 8) (r : Fin 2048) (J : Fin 32768) :
    scores x wq k (ix4 a h r J) = (∑ y : Fin 128, (∑ b : Fin 1024, x (ix3 0 r b) * wq (ix2 b ⟨h.val * 128 + y.val, by omega⟩)) * k (ix4 0 J h y)) * Ideal.ofBits .f32 0x3DB504F3#32 := by
  obtain rfl := Subsingleton.elim 0 a
  pointwise [scores]

theorem top_at (s : FVec Ideal S1x8x2048x32768 .f32) (a : Fin 1) (h : Fin 8) (r : Fin 2048) :
    top s (ix3 a h r) = Finset.univ.fold max (⊥ : EReal) (fun J : Fin 32768 => (s (ix4 a h r J) : EReal)) := by
  obtain rfl := Subsingleton.elim 0 a
  have h0 : Ideal.ofBits .f32 0xFF800000#32 = (⊥ : EReal) := by simp [Ideal.ofBits, Ideal.ieee]
  pointwise [top, h0]

theorem weights_at (s : FVec Ideal S1x8x2048x32768 .f32) (t : FVec Ideal S1x8x2048 .f32) (a : Fin 1) (h : Fin 8) (r : Fin 2048) (J : Fin 32768) :
    weights s t (ix4 a h r J) = Ideal.exp ((s (ix4 a h r J) : EReal) - (t (ix3 a h r) : EReal)) := by
  obtain rfl := Subsingleton.elim 0 a
  pointwise [weights]

theorem mean_at (p : FVec Ideal S1x8x2048x32768 .f32) (a : Fin 1) (r : Fin 2048) (h : Fin 8) (y : Fin 128) :
    mean v p (ix4 a r h y) = Ideal.div (∑ J : Fin 32768, v (ix4 0 J h y) * p (ix4 0 h r J)) (∑ J : Fin 32768, p (ix4 0 h r J)) := by
  obtain rfl := Subsingleton.elim 0 a
  pointwise [mean]

theorem project_at (o : FVec Ideal S1x2048x8x128 .f32) (a : Fin 1) (r : Fin 2048) (z : Fin 1024) :
    project wo o (ix3 a r z) = ∑ b : Fin 1024, o (ix4 0 r ⟨b.val / 128, by omega⟩ ⟨b.val % 128, Nat.mod_lt _ (by decide)⟩) * wo (ix2 b z) := by
  obtain rfl := Subsingleton.elim 0 a
  pointwise [project]

end Cert.ReferenceIdeal.Val
-- ==== Proof.Value.Equation.lean ====
/- The equation: on finite scores, the kernel's block is the reference's block. -/
module

public import proofs.«01_k».proof.Proof.Value.Block
public import proofs.«01_k».proof.Proof.Value.Reference

@[expose] public section

noncomputable section

namespace Cert.Equation

open Idealize.ShloMosaic Cert.KernelIdeal.Pf Cert.Softmax
open Cert.KernelIdeal.Val (sc scale outAt_at)
open Cert.ReferenceIdeal.Val (scores top weights mean result)
open scoped BigOperators

/-- Row `i` of device `c`. -/
abbrev rowOf (c : Fin 8) (i : Fin 256) : Fin 2048 := ⟨256 * c.val + i.val, by omega⟩

/-- Every key is some device's. -/
theorem key_of (J : Fin 32768) : ∃ (d : Fin 8) (j : Fin 4096), J = at8 d j :=
  ⟨⟨J.val / 4096, by omega⟩, ⟨J.val % 4096, Nat.mod_lt _ (by decide)⟩, Fin.ext (Nat.div_add_mod _ _).symm⟩

theorem at8_inj {d d' : Fin 8} {j j' : Fin 4096} (h : at8 d j = at8 d' j') : d = d' ∧ j = j' := by
  have := congrArg Fin.val h
  simp only at this
  exact ⟨Fin.ext (by omega), Fin.ext (by omega)⟩

theorem scale_real : ∃ σ : ℝ, scale = (σ : EReal) := by
  refine ⟨scale.toReal, (EReal.coe_toReal ?_ ?_).symm⟩ <;> simp [scale, Ideal.ofBits, Ideal.ieee] <;> rw [← EReal.coe_mul]
  · exact EReal.coe_ne_top _
  · exact EReal.coe_ne_bot _

variable (I : Inp Ideal) (X : FVec Ideal Cert.ReferenceIdeal.S1x2048x1024 .f32) (Wq : FVec Ideal Cert.ReferenceIdeal.S1024x1024 .f32)
  (K V : FVec Ideal Cert.ReferenceIdeal.S1x32768x8x128 .f32) (Wo : FVec Ideal Cert.ReferenceIdeal.S1024x1024 .f32)

/-- The devices' arguments are the blocks of whole arrays. -/
structure Blocks : Prop where
  x : ∀ (c : Fin 8) (i : Fin 256) (b : Fin 1024), (I.x c (ix3 0 i b) : EReal) = X (ix3 0 (rowOf c i) b)
  wq : ∀ (c : Fin 8) (b z : Fin 1024), (I.wq c (ix2 b z) : EReal) = Wq (ix2 b z)
  k : ∀ (c : Fin 8) (j : Fin 4096) (h : Fin 8) (y : Fin 128), (I.k c (ix4 0 j h y) : EReal) = K (ix4 0 (at8 c j) h y)
  v : ∀ (c : Fin 8) (j : Fin 4096) (h : Fin 8) (y : Fin 128), (I.v c (ix4 0 j h y) : EReal) = V (ix4 0 (at8 c j) h y)
  wo : ∀ (c : Fin 8) (b z : Fin 1024), (I.wo c (ix2 b z) : EReal) = Wo (ix2 b z)

/-- What the scores are made of is real. -/
structure Finite : Prop where
  x : ∀ (c : Fin 8) (i : Fin 256) (b : Fin 1024), ∃ r : ℝ, (I.x c (ix3 0 i b) : EReal) = r
  wq : ∀ (c : Fin 8) (b z : Fin 1024), ∃ r : ℝ, (I.wq c (ix2 b z) : EReal) = r
  k : ∀ (c : Fin 8) (j : Fin 4096) (h : Fin 8) (y : Fin 128), ∃ r : ℝ, (I.k c (ix4 0 j h y) : EReal) = r

variable {I X Wq K V Wo}

/-- The scores of one query in one head, as reals, are the same on both sides. -/
theorem scores_real (hB : Blocks I X Wq K V Wo) (hF : Finite I) (c : Fin 8) (i : Fin 256) (h : Fin 8) :
    ∃ s : Fin 32768 → ℝ, (∀ J, (scores X Wq K (ix4 0 h (rowOf c i) J) : EReal) = s J) ∧ ∀ d j, sc I d c h i j = (s (at8 d j) : EReal) := by
  obtain ⟨σ, hσ⟩ := scale_real
  choose xr hx using fun b => hF.x c i b
  choose wr hw using fun b z => hF.wq c b z
  have key (d : Fin 8) (j : Fin 4096) : ∃ t : ℝ, (scores X Wq K (ix4 0 h (rowOf c i) (at8 d j)) : EReal) = t ∧ sc I d c h i j = (t : EReal) := by
    choose kr hk using fun y => hF.k d j h y
    have hs := score xr (fun b y => wr b (col h y)) kr σ
    refine ⟨(∑ y, (∑ b, xr b * wr b (col h y)) * kr y) * σ, ?_, ?_⟩
    rotate_left
    · unfold sc
      simp only [hx, hw, hk, hσ]
      exact hs.1
    · refine (Cert.ReferenceIdeal.Val.scores_at X Wq K 0 h (rowOf c i) (at8 d j)).trans ?_
      refine Eq.trans ?_ hs.2
      refine congrArg₂ (fun a b : EReal => a * b) (Finset.sum_congr rfl fun y _ => congrArg₂ (fun a b : EReal => a * b)
        (Finset.sum_congr rfl fun b _ => congrArg₂ (fun a b : EReal => a * b) ?_ ?_) ?_) hσ
      · exact (hB.x c i b).symm.trans (hx b)
      · refine Eq.trans (congrArg (fun z => (Wq (ix2 b z) : EReal)) (Fin.ext ?_ : _ = col h y)) ((hB.wq c b (col h y)).symm.trans (hw b (col h y)))
        exact congrArg (fun n => n + y.val) (Nat.mul_comm _ _)
      · exact (hB.k d j h y).symm.trans (hk y)
  choose t ht using key
  choose D E hDE using key_of
  refine ⟨fun J => t (D J) (E J), fun J => ?_, fun d j => ?_⟩
  · have := (ht (D J) (E J)).1
    rwa [← hDE J] at this
  · obtain ⟨h1, h2⟩ := at8_inj (hDE (at8 d j))
    show _ = ((t (D (at8 d j)) (E (at8 d j)) : ℝ) : EReal)
    rw [← h1, ← h2]
    exact (ht d j).2

/-- The weighted mean of the values, one element. -/
theorem mean_eq (hB : Blocks I X Wq K V Wo) (hF : Finite I) (c : Fin 8) (i : Fin 256) (h : Fin 8) (y : Fin 128) :
    Ideal.div (∑ d : Fin 8, ∑ j : Fin 4096, Ideal.exp (sc I d c h i j) * (I.v d (ix4 0 j h y) : EReal)) (∑ d : Fin 8, ∑ j : Fin 4096, Ideal.exp (sc I d c h i j))
      = mean V (weights (scores X Wq K) (top (scores X Wq K))) (ix4 0 (rowOf c i) h y) := by
  obtain ⟨s, h1, h2⟩ := scores_real hB hF c i h
  obtain ⟨M, hM⟩ := max_real s
  have hT : (top (scores X Wq K) (ix3 0 h (rowOf c i)) : EReal) = M :=
    (Cert.ReferenceIdeal.Val.top_at _ 0 h (rowOf c i)).trans ((congrArg (Finset.univ.fold max (⊥ : EReal)) (funext h1)).trans hM)
  have hW (J : Fin 32768) : (weights (scores X Wq K) (top (scores X Wq K)) (ix4 0 h (rowOf c i) J) : EReal) = Ideal.exp ((s J : EReal) - (M : EReal)) :=
    (Cert.ReferenceIdeal.Val.weights_at _ _ 0 h (rowOf c i) J).trans (congrArg₂ (fun a b : EReal => Ideal.exp (a - b)) (h1 J) hT)
  refine Eq.trans ?_ (Cert.ReferenceIdeal.Val.mean_at V _ 0 (rowOf c i) h y).symm
  have e1 : ∑ d : Fin 8, ∑ j : Fin 4096, Ideal.exp (sc I d c h i j) * (I.v d (ix4 0 j h y) : EReal) = ∑ J : Fin 32768, Ideal.exp (s J : EReal) * (V (ix4 0 J h y) : EReal) :=
    (Finset.sum_congr rfl fun d _ => Finset.sum_congr rfl fun j _ => congrArg₂ (fun a b : EReal => Ideal.exp a * b) (h2 d j) (hB.v d j h y)).trans
      (sum_keys fun J => Ideal.exp (s J : EReal) * (V (ix4 0 J h y) : EReal)).symm
  have e2 : ∑ d : Fin 8, ∑ j : Fin 4096, Ideal.exp (sc I d c h i j) = ∑ J : Fin 32768, Ideal.exp (s J : EReal) :=
    (Finset.sum_congr rfl fun d _ => Finset.sum_congr rfl fun j _ => congrArg Ideal.exp (h2 d j)).trans (sum_keys fun J => Ideal.exp (s J : EReal)).symm
  rw [e1, e2]
  refine (quot_shift s (fun J => (V (ix4 0 J h y) : EReal)) M).symm.trans ?_
  exact congrArg₂ Ideal.div (Finset.sum_congr rfl fun J _ => (mul_comm _ _).trans (congrArg (fun a : EReal => (V (ix4 0 J h y) : EReal) * a) (hW J).symm))
    (Finset.sum_congr rfl fun J _ => (hW J).symm)

/-- Device `c`'s block of the result, element by element. -/
theorem out_eq (hB : Blocks I X Wq K V Wo) (hF : Finite I) (c : Fin 8) (i : Fin 256) (z : Fin 1024) :
    (outAt I c (ix3 0 i z) : EReal) = result X Wq K V Wo (ix3 0 (rowOf c i) z) := by
  refine (outAt_at I c i z).trans (Eq.trans ?_ (Cert.ReferenceIdeal.Val.project_at Wo _ 0 (rowOf c i) z).symm)
  exact Finset.sum_congr rfl fun b _ => congrArg₂ (fun a b : EReal => a * b) (mean_eq hB hF c i (hd b) (lo b)) (hB.wo c b z)

end Cert.Equation
-- ==== Proof.Value.Claim.lean ====
/- The value claim: from memories holding the same arrays, what the scores are made of being finite, device `c`'s result is
   block `c` of the reference's. -/
module

public import proofs.«01_k».proof.Defs
public import proofs.«01_k».proof.Proof.Gen.KernelIdeal
public import proofs.«01_k».proof.Proof.Gen.ReferenceIdeal
public import proofs.«01_k».proof.Proof.KernelIdeal.Result
public import proofs.«01_k».proof.Proof.Value.Equation

@[expose] public section

noncomputable section

namespace Cert.ValueClaim

open Idealize.ShloMosaic Idealize.SL.Sem Cert.KernelIdeal.Pf

/-- The predicate's operations fit their shapes. -/
theorem facts_pre : Cert.Pre_finite_scores_KernelIdeal.Facts := ⟨by decide, by decide, by decide⟩
theorem facts_pre_ref : Cert.Pre_finite_scores_ReferenceIdeal.Facts := ⟨by decide, by decide, by decide⟩

/-- A number whose magnitude is below the word of infinity is real. -/
theorem real_of_lt (x : EReal) (h : Ideal.cmp .olt (max x (-x)) (Ideal.ofBits .f32 0x7F800000#32) = 1#1) : ∃ r : ℝ, x = r := by
  have ht : Ideal.ofBits .f32 0x7F800000#32 = (⊤ : EReal) := by simp [Ideal.ofBits, Ideal.ieee]
  rw [ht] at h
  have hlt : max x (-x) < ⊤ := by
    by_contra hn
    simp [Ideal.cmp, hn] at h
  have h1 : x ≠ ⊤ := fun e => by simp [e] at hlt
  have h2 : x ≠ ⊥ := fun e => by simp [e] at hlt
  exact ⟨x.toReal, (EReal.coe_toReal h1 h2).symm⟩

variable {m : (ℓ : Loc Cert.KernelIdeal.nD Cert.KernelIdeal.τ Cert.KernelIdeal.sig) → Buf (Elt Ideal) ℓ}

/-- Where the precondition holds, what the scores are made of is real. -/
theorem finite_of_pre (h : Cert.Pre_KernelIdeal_finite_scores_KernelIdeal (hPre_finite_scores_KernelIdeal := facts_pre) m) : Cert.Equation.Finite (inp m) where
  x c i b := by
    rw [inp_x]
    exact real_of_lt _ (congrFun (h c).1 (ix3 0 i b))
  wq c b z := by
    rw [inp_wq]
    exact real_of_lt _ (congrFun (h c).2.1 (ix2 b z))
  k c j hh y := real_of_lt _ (congrFun (h c).2.2 (ix4 0 j hh y))

theorem row_block (c : Fin 8) (i : Fin 256) (b : Fin 1024) (v : (⟨3, ![1, 2048, 1024]⟩ : Shape).Idx → EReal) :
    Layout.block ⟨3, ![1, 256, 1024]⟩ ⟨3, ![1, 2048, 1024]⟩ 1 8 c v (by decide) (ix3 0 i b) = v (ix3 0 (Cert.Equation.rowOf c i) b) := by
  refine congrArg v (funext fun a => Fin.ext ?_)
  refine (Layout.Tiles.idx_val _ c (ix3 0 i b) a).trans ?_
  fin_cases a
  · rfl
  · exact congrArg (fun n => n + i.val) (Nat.mul_comm _ _)
  · rfl

theorem key_block (c : Fin 8) (j : Fin 4096) (h : Fin 8) (y : Fin 128) (v : (⟨4, ![1, 32768, 8, 128]⟩ : Shape).Idx → EReal) :
    Layout.block ⟨4, ![1, 4096, 8, 128]⟩ ⟨4, ![1, 32768, 8, 128]⟩ 1 8 c v (by decide) (ix4 0 j h y) = v (ix4 0 (Cert.Softmax.at8 c j) h y) := by
  refine congrArg v (funext fun a => Fin.ext ?_)
  refine (Layout.Tiles.idx_val _ c (ix4 0 j h y) a).trans ?_
  fin_cases a
  · rfl
  · exact congrArg (fun n => n + j.val) (Nat.mul_comm _ _)
  · rfl
  · rfl

theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := facts_pre) := by
  intro m g m' g' hp hw
  have hB : Cert.Equation.Blocks (inp m) _ _ _ _ _ :=
    { x := fun c i b => (congrFun ((inp_x m c).trans (hw c).1) (ix3 0 i b)).trans (row_block c i b _)
      wq := fun c b z => congrFun ((inp_wq m c).trans (hw c).2.1) (ix2 b z)
      k := fun c j h y => (congrFun (hw c).2.2.1 (ix4 0 j h y)).trans (key_block c j h y _)
      v := fun c j h y => (congrFun (hw c).2.2.2.1 (ix4 0 j h y)).trans (key_block c j h y _)
      wo := fun c b z => congrFun ((inp_wo m c).trans (hw c).2.2.2.2) (ix2 b z) }
  refine ⟨_, ?_, (θ_run Cert.ReferenceIdeal.defs _ _).mono (fun r h => h 0) (Cert.ReferenceIdeal.Val.run m' g')⟩
  refine (θ_run Cert.KernelIdeal.defs _ _).mono (fun r h c => ⟨(h c).1.trans ?_, (h c).2⟩) (value_run m g)
  funext i
  obtain ⟨a, b, d, rfl⟩ : ∃ (a : Fin 1) (b : Fin 256) (d : Fin 1024), i = ix3 a b d := ⟨_, _, _, eq_ix3 i⟩
  obtain rfl := Subsingleton.elim 0 a
  exact (Cert.Equation.out_eq hB (finite_of_pre hp) c b d).trans (row_block c b d _).symm

end Cert.ValueClaim
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Claim
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Pf.frame_run (F := Bits) m ρ

theorem frame_kernelIdeal : Cert.quiescent_KernelIdeal := fun m ρ _ => Cert.KernelIdeal.Pf.frame_run (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.ValueClaim.facts_pre, Cert.ValueClaim.facts_pre_ref,
  frame_kernel, frame_kernelIdeal, fun m ρ _ => frame_kernelIdeal m ρ True.intro,
  frame_reference, fun m ρ _ => frame_reference m ρ True.intro, trivial, Cert.ValueClaim.algebraic⟩

end Cert.Proof

end
